-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_position_fits [hPre_position_fits : Cert.Pre_position_fits.Facts] (m : (ℓ : Loc Cert.KernelIdeal.nD Cert.KernelIdeal.τ Cert.KernelIdeal.sig) → Buf (Elt Ideal) ℓ) : Prop :=
  ∀ c : Dev Cert.KernelIdeal.nD,
    (Cert.Pre_position_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_position_fits [hPre_position_fits : Cert.Pre_position_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_position_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_position_fits [hKernelIdeal : Cert.KernelIdeal.Facts] [hPre_position_fits : Cert.Pre_position_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_position_fits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_position_fits [hReferenceIdeal : Cert.ReferenceIdeal.Facts] [hPre_position_fits : Cert.Pre_position_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_position_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_position_fits [hKernelIdeal : Cert.KernelIdeal.Facts] [hReferenceIdeal : Cert.ReferenceIdeal.Facts] [hPre_position_fits : Cert.Pre_position_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_position_fits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v460) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_position_fits : Cert.Pre_position_fits.Facts),
    quiescent_Kernel (hKernel := hKernel)
    ∧ quiescent_KernelIdeal (hKernelIdeal := hKernelIdeal)
    ∧ quiescent_KernelIdeal_pre_position_fits (hKernelIdeal := hKernelIdeal) (hPre_position_fits := hPre_position_fits)
    ∧ quiescent_ReferenceIdeal (hReferenceIdeal := hReferenceIdeal)
    ∧ quiescent_ReferenceIdeal_pre_position_fits (hReferenceIdeal := hReferenceIdeal) (hPre_position_fits := hPre_position_fits)
    ∧ preserves_Kernel_KernelIdeal
    ∧ algebraic_KernelIdeal_ReferenceIdeal_pre_position_fits (hKernelIdeal := hKernelIdeal) (hReferenceIdeal := hReferenceIdeal) (hPre_position_fits := hPre_position_fits)
-- ==== Pre_position_fits.lean ====
abbrev S1x16x64x64x64x8 : Shape := ⟨6, ![1, 16, 64, 64, 64, 8]⟩
abbrev S1x1x64x64x64 : Shape := ⟨5, ![1, 1, 64, 64, 64]⟩
abbrev S_ : Shape := ⟨0, ![]⟩

class Facts : Prop where
  bcast_S_S1x1x64x64x64 : S_.BroadcastsInDim S1x1x64x64x64 (![] : Fin 0 → Fin S1x1x64x64x64.rank)

variable [Facts]

def fn {F : FTy → Type} [FloatOps F] (main_arg0 : FVec F S1x16x64x64x64x8 .f32) (main_arg1 : FVec F S1x1x64x64x64 .f32) : IVec S1x1x64x64x64 1 :=
  let main_v0 : FVec F S1x1x64x64x64 .f32 := Host.absf main_arg1
  let main_cst : FVec F S_ .f32 := constant S_ .f32 0x4D800000#32
  let main_v1 : FVec F S1x1x64x64x64 .f32 := broadcastInDim S1x1x64x64x64 ![] bcast_S_S1x1x64x64x64 main_cst
  let main_v2 : IVec S1x1x64x64x64 1 := cmpf .ole main_v0 main_v1
  main_v2
-- ==== Kernel.lean ====
abbrev S1x16x64x64x64x8 : Shape := ⟨6, ![1, 16, 64, 64, 64, 8]⟩
abbrev S1x1x64x64x64 : Shape := ⟨5, ![1, 1, 64, 64, 64]⟩
abbrev S16x64x64x512 : Shape := ⟨4, ![16, 64, 64, 512]⟩
abbrev S64x64x64 : Shape := ⟨3, ![64, 64, 64]⟩
abbrev S16x64x64x64 : Shape := ⟨4, ![16, 64, 64, 64]⟩
abbrev S4x64x64 : Shape := ⟨3, ![4, 64, 64]⟩
abbrev S16x4x64x512 : Shape := ⟨4, ![16, 4, 64, 512]⟩
abbrev S16x4x64x64 : Shape := ⟨4, ![16, 4, 64, 64]⟩
abbrev S256x64 : Shape := ⟨2, ![256, 64]⟩
abbrev S64x512 : Shape := ⟨2, ![64, 512]⟩
abbrev S256x512 : Shape := ⟨2, ![256, 512]⟩
abbrev S16x256x512 : Shape := ⟨3, ![16, 256, 512]⟩
abbrev S1x256x512 : Shape := ⟨3, ![1, 256, 512]⟩
abbrev S4096x512 : Shape := ⟨2, ![4096, 512]⟩
abbrev S512x64 : Shape := ⟨2, ![512, 64]⟩
abbrev S4096x64 : Shape := ⟨2, ![4096, 64]⟩
abbrev S1x16x64x64x64 : Shape := ⟨5, ![1, 16, 64, 64, 64]⟩

abbrev nBuf : Space → Nat
  | .hbm => 6
  | .vmem => 6
  | .smem => 0
  | _ => 0

abbrev bufTy : (tb : Table) → Fin (tcTables nBuf tb) → BufTy
  | .hbm, ⟨0, _⟩ => ⟨S1x16x64x64x64x8, .f32⟩
  | .hbm, ⟨1, _⟩ => ⟨S1x1x64x64x64, .f32⟩
  | .hbm, ⟨2, _⟩ => ⟨S16x64x64x512, .f32⟩
  | .hbm, ⟨3, _⟩ => ⟨S64x64x64, .f32⟩
  | .hbm, ⟨4, _⟩ => ⟨S16x64x64x64, .f32⟩
  | .hbm, ⟨5, _⟩ => ⟨S1x16x64x64x64, .f32⟩
  | .local _ .vmem, ⟨0, _⟩ => ⟨S4x64x64, .f32⟩
  | .local _ .vmem, ⟨1, _⟩ => ⟨S4x64x64, .f32⟩
  | .local _ .vmem, ⟨2, _⟩ => ⟨S16x4x64x512, .f32⟩
  | .local _ .vmem, ⟨3, _⟩ => ⟨S16x4x64x512, .f32⟩
  | .local _ .vmem, ⟨4, _⟩ => ⟨S16x4x64x64, .f32⟩
  | .local _ .vmem, ⟨5, _⟩ => ⟨S16x4x64x64, .f32⟩
  | _, _ => ⟨S1x16x64x64x64x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x4x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x16x64x64x64x8 : Shape := ⟨6, ![1, 16, 64, 64, 64, 8]⟩
abbrev S1x1x64x64x64 : Shape := ⟨5, ![1, 1, 64, 64, 64]⟩
abbrev S64 : Shape := ⟨1, ![64]⟩
abbrev S64x64x64 : Shape := ⟨3, ![64, 64, 64]⟩
abbrev S_ : Shape := ⟨0, ![]⟩
abbrev S1x64x64x64 : Shape := ⟨4, ![1, 64, 64, 64]⟩
abbrev S1x64x64x64x1 : Shape := ⟨5, ![1, 64, 64, 64, 1]⟩
abbrev S1x64x64x64x4 : Shape := ⟨5, ![1, 64, 64, 64, 4]⟩
abbrev S1x262144x4 : Shape := ⟨3, ![1, 262144, 4]⟩
abbrev S1x262144x1 : Shape := ⟨3, ![1, 262144, 1]⟩
abbrev S1x262144 : Shape := ⟨2, ![1, 262144]⟩
abbrev S1x16x2097152 : Shape := ⟨3, ![1, 16, 2097152]⟩
abbrev S16x262144 : Shape := ⟨2, ![16, 262144]⟩
abbrev S262144 : Shape := ⟨1, ![262144]⟩
abbrev S1 : Shape := ⟨1, ![1]⟩
abbrev S1x1x1 : Shape := ⟨3, ![1, 1, 1]⟩
abbrev S1x16x262144 : Shape := ⟨3, ![1, 16, 262144]⟩
abbrev S1x1x262144 : Shape := ⟨3, ![1, 1, 262144]⟩
abbrev S1x16x64x64x64 : Shape := ⟨5, ![1, 16, 64, 64, 64]⟩

abbrev nBuf : Space → Nat
  | .hbm => 979
  | .vmem => 0
  | .smem => 0
  | _ => 0

abbrev hbmTy0_0 (i : Nat) : BufTy := match i % 128 with
  | 0 => ⟨S1x16x64x64x64x8, .f32⟩
  | 1 => ⟨S1x1x64x64x64, .f32⟩
  | 2 => ⟨S64, .i32⟩
  | 3 => ⟨S64, .i32⟩
  | 4 => ⟨S64, .i32⟩
  | 5 => ⟨S64x64x64, .i32⟩
  | 6 => ⟨S64x64x64, .i32⟩
  | 7 => ⟨S64x64x64, .i32⟩
  | 8 => ⟨S64x64x64, .f32⟩
  | 9 => ⟨S_, .f32⟩
  | 10 => ⟨S64x64x64, .f32⟩
  | 11 => ⟨S64x64x64, .f32⟩
  | 12 => ⟨S1x64x64x64, .f32⟩
  | 13 => ⟨S_, .f32⟩
  | 14 => ⟨S1x64x64x64, .f32⟩
  | 15 => ⟨S1x64x64x64, .f32⟩
  | 16 => ⟨S64x64x64, .f32⟩
  | 17 => ⟨S_, .f32⟩
  | 18 => ⟨S64x64x64, .f32⟩
  | 19 => ⟨S64x64x64, .f32⟩
  | 20 => ⟨S1x64x64x64, .f32⟩
  | 21 => ⟨S_, .f32⟩
  | 22 => ⟨S1x64x64x64, .f32⟩
  | 23 => ⟨S1x64x64x64, .f32⟩
  | 24 => ⟨S64x64x64, .f32⟩
  | 25 => ⟨S_, .f32⟩
  | 26 => ⟨S64x64x64, .f32⟩
  | 27 => ⟨S64x64x64, .f32⟩
  | 28 => ⟨S1x64x64x64, .f32⟩
  | 29 => ⟨S_, .f32⟩
  | 30 => ⟨S1x64x64x64, .f32⟩
  | 31 => ⟨S1x64x64x64, .f32⟩
  | 32 => ⟨S_, .f32⟩
  | 33 => ⟨S1x1x64x64x64, .f32⟩
  | 34 => ⟨S1x1x64x64x64, .f32⟩
  | 35 => ⟨S1x64x64x64, .f32⟩
  | 36 => ⟨S1x64x64x64x1, .f32⟩
  | 37 => ⟨S1x64x64x64x1, .f32⟩
  | 38 => ⟨S1x64x64x64x1, .f32⟩
  | 39 => ⟨S1x64x64x64x1, .f32⟩
  | 40 => ⟨S1x64x64x64x4, .f32⟩
  | 41 => ⟨S1x262144x4, .f32⟩
  | 42 => ⟨S1x262144x1, .f32⟩
  | 43 => ⟨S1x262144, .f32⟩
  | 44 => ⟨S1x262144x1, .f32⟩
  | 45 => ⟨S1x262144, .f32⟩
  | 46 => ⟨S1x262144x1, .f32⟩
  | 47 => ⟨S1x262144, .f32⟩
  | 48 => ⟨S1x262144x1, .f32⟩
  | 49 => ⟨S1x262144, .f32⟩
  | 50 => ⟨S1x262144, .f32⟩
  | 51 => ⟨S1x262144, .f32⟩
  | 52 => ⟨S1x262144, .f32⟩
  | 53 => ⟨S1x262144, .f32⟩
  | 54 => ⟨S1x262144, .f32⟩
  | 55 => ⟨S1x262144, .f32⟩
  | 56 => ⟨S1x262144, .f32⟩
  | 57 => ⟨S1x262144, .f32⟩
  | 58 => ⟨S1x262144, .i32⟩
  | 59 => ⟨S_, .i32⟩
  | 60 => ⟨S_, .i32⟩
  | 61 => ⟨S_, .i32⟩
  | 62 => ⟨S1x262144, .i32⟩
  | 63 => ⟨S1x262144, .i32⟩
  | 64 => ⟨S_, .i32⟩
  | 65 => ⟨S1x262144, .i32⟩
  | 66 => ⟨S1x262144, .i32⟩
  | 67 => ⟨S1x262144, .i32⟩
  | 68 => ⟨S_, .i32⟩
  | 69 => ⟨S_, .i32⟩
  | 70 => ⟨S_, .i32⟩
  | 71 => ⟨S1x262144, .i32⟩
  | 72 => ⟨S1x262144, .i32⟩
  | 73 => ⟨S_, .i32⟩
  | 74 => ⟨S1x262144, .i32⟩
  | 75 => ⟨S1x262144, .i32⟩
  | 76 => ⟨S1x262144, .i32⟩
  | 77 => ⟨S_, .i32⟩
  | 78 => ⟨S_, .i32⟩
  | 79 => ⟨S_, .i32⟩
  | 80 => ⟨S1x262144, .i32⟩
  | 81 => ⟨S1x262144, .i32⟩
  | 82 => ⟨S_, .i32⟩
  | 83 => ⟨S1x262144, .i32⟩
  | 84 => ⟨S1x262144, .i32⟩
  | 85 => ⟨S1x262144, .i32⟩
  | 86 => ⟨S_, .i32⟩
  | 87 => ⟨S_, .i32⟩
  | 88 => ⟨S_, .i32⟩
  | 89 => ⟨S1x262144, .i32⟩
  | 90 => ⟨S1x262144, .i32⟩
  | 91 => ⟨S_, .i32⟩
  | 92 => ⟨S1x262144, .i32⟩
  | 93 => ⟨S1x262144, .i32⟩
  | 94 => ⟨S1x262144, .i32⟩
  | 95 => ⟨S_, .i32⟩
  | 96 => ⟨S1x262144, .i32⟩
  | 97 => ⟨S1x262144, .i32⟩
  | 98 => ⟨S_, .i32⟩
  | 99 => ⟨S_, .i32⟩
  | 100 => ⟨S_, .i32⟩
  | 101 => ⟨S1x262144, .i32⟩
  | 102 => ⟨S1x262144, .i32⟩
  | 103 => ⟨S_, .i32⟩
  | 104 => ⟨S1x262144, .i32⟩
  | 105 => ⟨S1x262144, .i32⟩
  | 106 => ⟨S1x262144, .i32⟩
  | 107 => ⟨S_, .i32⟩
  | 108 => ⟨S1x262144, .i32⟩
  | 109 => ⟨S1x262144, .i32⟩
  | 110 => ⟨S_, .i32⟩
  | 111 => ⟨S_, .i32⟩
  | 112 => ⟨S_, .i32⟩
  | 113 => ⟨S1x262144, .i32⟩
  | 114 => ⟨S1x262144, .i32⟩
  | 115 => ⟨S_, .i32⟩
  | 116 => ⟨S1x262144, .i32⟩
  | 117 => ⟨S1x262144, .i32⟩
  | 118 => ⟨S1x262144, .i32⟩
  | 119 => ⟨S_, .i32⟩
  | 120 => ⟨S1x262144, .i32⟩
  | 121 => ⟨S1x262144, .i32⟩
  | 122 => ⟨S_, .i32⟩
  | 123 => ⟨S_, .i32⟩
  | 124 => ⟨S_, .i32⟩
  | 125 => ⟨S1x262144, .i32⟩
  | 126 => ⟨S1x262144, .i32⟩
  | 127 => ⟨S_, .i32⟩
  | _ => ⟨S1x16x64x64x64x8, .f32⟩

abbrev hbmTy0_1 (i : Nat) : BufTy := match i % 128 with
  | 0 => ⟨S1x262144, .i32⟩
  | 1 => ⟨S1x262144, .i32⟩
  | 2 => ⟨S1x262144, .i32⟩
  | 3 => ⟨S_, .i32⟩
  | 4 => ⟨S1x262144, .i32⟩
  | 5 => ⟨S1x262144, .i32⟩
  | 6 => ⟨S_, .i32⟩
  | 7 => ⟨S_, .i32⟩
  | 8 => ⟨S_, .i32⟩
  | 9 => ⟨S1x262144, .i32⟩
  | 10 => ⟨S1x262144, .i32⟩
  | 11 => ⟨S_, .i32⟩
  | 12 => ⟨S1x262144, .i32⟩
  | 13 => ⟨S1x262144, .i32⟩
  | 14 => ⟨S1x16x2097152, .f32⟩
  | 15 => ⟨S_, .f32⟩
  | 16 => ⟨S16x262144, .f32⟩
  | 17 => ⟨S_, .f32⟩
  | 18 => ⟨S262144, .f32⟩
  | 19 => ⟨S_, .f32⟩
  | 20 => ⟨S1x262144, .f32⟩
  | 21 => ⟨S1x262144, .f32⟩
  | 22 => ⟨S1x262144, .f32⟩
  | 23 => ⟨S1x262144, .f32⟩
  | 24 => ⟨S_, .f32⟩
  | 25 => ⟨S1x262144, .f32⟩
  | 26 => ⟨S1x262144, .f32⟩
  | 27 => ⟨S1x262144, .f32⟩
  | 28 => ⟨S_, .f32⟩
  | 29 => ⟨S1x262144, .f32⟩
  | 30 => ⟨S1x262144, .f32⟩
  | 31 => ⟨S1x262144, .f32⟩
  | 32 => ⟨S_, .f32⟩
  | 33 => ⟨S1x262144, .f32⟩
  | 34 => ⟨S1x262144, .f32⟩
  | 35 => ⟨S1x262144, .f32⟩
  | 36 => ⟨S_, .i32⟩
  | 37 => ⟨S1x262144, .i32⟩
  | 38 => ⟨S1x262144, .i32⟩
  | 39 => ⟨S1x262144, .i32⟩
  | 40 => ⟨S_, .i32⟩
  | 41 => ⟨S1x262144, .i32⟩
  | 42 => ⟨S1x262144, .i32⟩
  | 43 => ⟨S1x262144, .i32⟩
  | 44 => ⟨S_, .i32⟩
  | 45 => ⟨S1x262144, .i32⟩
  | 46 => ⟨S1x262144, .i32⟩
  | 47 => ⟨S1x262144, .i32⟩
  | 48 => ⟨S_, .i32⟩
  | 49 => ⟨S1x262144, .i32⟩
  | 50 => ⟨S1x262144, .i1⟩
  | 51 => ⟨S_, .i32⟩
  | 52 => ⟨S1x262144, .i32⟩
  | 53 => ⟨S1x262144, .i32⟩
  | 54 => ⟨S1x262144, .i32⟩
  | 55 => ⟨S1x262144x1, .i32⟩
  | 56 => ⟨S1, .i32⟩
  | 57 => ⟨S_, .i32⟩
  | 58 => ⟨S1x262144x1, .i32⟩
  | 59 => ⟨S1x262144x1, .i1⟩
  | 60 => ⟨S1x1x1, .i32⟩
  | 61 => ⟨S1x262144x1, .i32⟩
  | 62 => ⟨S1x262144x1, .i1⟩
  | 63 => ⟨S1x262144x1, .i1⟩
  | 64 => ⟨S_, .i1⟩
  | 65 => ⟨S1x262144, .i1⟩
  | 66 => ⟨S1x16x262144, .f32⟩
  | 67 => ⟨S1x16x262144, .i1⟩
  | 68 => ⟨S_, .f32⟩
  | 69 => ⟨S1x16x262144, .f32⟩
  | 70 => ⟨S1x16x262144, .f32⟩
  | 71 => ⟨S1x1x262144, .f32⟩
  | 72 => ⟨S1x16x262144, .f32⟩
  | 73 => ⟨S1x16x262144, .f32⟩
  | 74 => ⟨S1x16x262144, .f32⟩
  | 75 => ⟨S1x16x262144, .f32⟩
  | 76 => ⟨S_, .f32⟩
  | 77 => ⟨S262144, .f32⟩
  | 78 => ⟨S1x262144, .f32⟩
  | 79 => ⟨S1x262144, .f32⟩
  | 80 => ⟨S_, .f32⟩
  | 81 => ⟨S1x262144, .f32⟩
  | 82 => ⟨S1x262144, .f32⟩
  | 83 => ⟨S1x262144, .f32⟩
  | 84 => ⟨S_, .f32⟩
  | 85 => ⟨S1x262144, .f32⟩
  | 86 => ⟨S1x262144, .f32⟩
  | 87 => ⟨S1x262144, .f32⟩
  | 88 => ⟨S_, .f32⟩
  | 89 => ⟨S1x262144, .f32⟩
  | 90 => ⟨S1x262144, .f32⟩
  | 91 => ⟨S1x262144, .f32⟩
  | 92 => ⟨S_, .i32⟩
  | 93 => ⟨S1x262144, .i32⟩
  | 94 => ⟨S1x262144, .i32⟩
  | 95 => ⟨S1x262144, .i32⟩
  | 96 => ⟨S_, .i32⟩
  | 97 => ⟨S1x262144, .i32⟩
  | 98 => ⟨S1x262144, .i32⟩
  | 99 => ⟨S1x262144, .i32⟩
  | 100 => ⟨S_, .i32⟩
  | 101 => ⟨S1x262144, .i32⟩
  | 102 => ⟨S1x262144, .i32⟩
  | 103 => ⟨S1x262144, .i32⟩
  | 104 => ⟨S_, .i32⟩
  | 105 => ⟨S1x262144, .i32⟩
  | 106 => ⟨S1x262144, .i1⟩
  | 107 => ⟨S_, .i32⟩
  | 108 => ⟨S1x262144, .i32⟩
  | 109 => ⟨S1x262144, .i32⟩
  | 110 => ⟨S1x262144, .i32⟩
  | 111 => ⟨S1x262144x1, .i32⟩
  | 112 => ⟨S1, .i32⟩
  | 113 => ⟨S_, .i32⟩
  | 114 => ⟨S1x262144x1, .i32⟩
  | 115 => ⟨S1x262144x1, .i1⟩
  | 116 => ⟨S1x1x1, .i32⟩
  | 117 => ⟨S1x262144x1, .i32⟩
  | 118 => ⟨S1x262144x1, .i1⟩
  | 119 => ⟨S1x262144x1, .i1⟩
  | 120 => ⟨S_, .i1⟩
  | 121 => ⟨S1x262144, .i1⟩
  | 122 => ⟨S1x16x262144, .f32⟩
  | 123 => ⟨S1x16x262144, .i1⟩
  | 124 => ⟨S_, .f32⟩
  | 125 => ⟨S1x16x262144, .f32⟩
  | 126 => ⟨S1x16x262144, .f32⟩
  | 127 => ⟨S1x1x262144, .f32⟩
  | _ => ⟨S1x16x64x64x64x8, .f32⟩

abbrev hbmTy0_2 (i : Nat) : BufTy := match i % 128 with
  | 0 => ⟨S1x16x262144, .f32⟩
  | 1 => ⟨S1x16x262144, .f32⟩
  | 2 => ⟨S1x16x262144, .f32⟩
  | 3 => ⟨S_, .f32⟩
  | 4 => ⟨S262144, .f32⟩
  | 5 => ⟨S_, .f32⟩
  | 6 => ⟨S1x262144, .f32⟩
  | 7 => ⟨S1x262144, .f32⟩
  | 8 => ⟨S1x262144, .f32⟩
  | 9 => ⟨S1x262144, .f32⟩
  | 10 => ⟨S1x262144, .f32⟩
  | 11 => ⟨S_, .f32⟩
  | 12 => ⟨S1x262144, .f32⟩
  | 13 => ⟨S1x262144, .f32⟩
  | 14 => ⟨S1x262144, .f32⟩
  | 15 => ⟨S_, .f32⟩
  | 16 => ⟨S1x262144, .f32⟩
  | 17 => ⟨S1x262144, .f32⟩
  | 18 => ⟨S1x262144, .f32⟩
  | 19 => ⟨S_, .i32⟩
  | 20 => ⟨S1x262144, .i32⟩
  | 21 => ⟨S1x262144, .i32⟩
  | 22 => ⟨S1x262144, .i32⟩
  | 23 => ⟨S_, .i32⟩
  | 24 => ⟨S1x262144, .i32⟩
  | 25 => ⟨S1x262144, .i32⟩
  | 26 => ⟨S1x262144, .i32⟩
  | 27 => ⟨S_, .i32⟩
  | 28 => ⟨S1x262144, .i32⟩
  | 29 => ⟨S1x262144, .i32⟩
  | 30 => ⟨S1x262144, .i32⟩
  | 31 => ⟨S_, .i32⟩
  | 32 => ⟨S1x262144, .i32⟩
  | 33 => ⟨S1x262144, .i1⟩
  | 34 => ⟨S_, .i32⟩
  | 35 => ⟨S1x262144, .i32⟩
  | 36 => ⟨S1x262144, .i32⟩
  | 37 => ⟨S1x262144, .i32⟩
  | 38 => ⟨S1x262144x1, .i32⟩
  | 39 => ⟨S1, .i32⟩
  | 40 => ⟨S_, .i32⟩
  | 41 => ⟨S1x262144x1, .i32⟩
  | 42 => ⟨S1x262144x1, .i1⟩
  | 43 => ⟨S1x1x1, .i32⟩
  | 44 => ⟨S1x262144x1, .i32⟩
  | 45 => ⟨S1x262144x1, .i1⟩
  | 46 => ⟨S1x262144x1, .i1⟩
  | 47 => ⟨S_, .i1⟩
  | 48 => ⟨S1x262144, .i1⟩
  | 49 => ⟨S1x16x262144, .f32⟩
  | 50 => ⟨S1x16x262144, .i1⟩
  | 51 => ⟨S_, .f32⟩
  | 52 => ⟨S1x16x262144, .f32⟩
  | 53 => ⟨S1x16x262144, .f32⟩
  | 54 => ⟨S1x1x262144, .f32⟩
  | 55 => ⟨S1x16x262144, .f32⟩
  | 56 => ⟨S1x16x262144, .f32⟩
  | 57 => ⟨S1x16x262144, .f32⟩
  | 58 => ⟨S_, .f32⟩
  | 59 => ⟨S262144, .f32⟩
  | 60 => ⟨S1x262144, .f32⟩
  | 61 => ⟨S1x262144, .f32⟩
  | 62 => ⟨S1x262144, .f32⟩
  | 63 => ⟨S_, .f32⟩
  | 64 => ⟨S1x262144, .f32⟩
  | 65 => ⟨S1x262144, .f32⟩
  | 66 => ⟨S1x262144, .f32⟩
  | 67 => ⟨S_, .f32⟩
  | 68 => ⟨S1x262144, .f32⟩
  | 69 => ⟨S1x262144, .f32⟩
  | 70 => ⟨S1x262144, .f32⟩
  | 71 => ⟨S_, .i32⟩
  | 72 => ⟨S1x262144, .i32⟩
  | 73 => ⟨S1x262144, .i32⟩
  | 74 => ⟨S1x262144, .i32⟩
  | 75 => ⟨S_, .i32⟩
  | 76 => ⟨S1x262144, .i32⟩
  | 77 => ⟨S1x262144, .i32⟩
  | 78 => ⟨S1x262144, .i32⟩
  | 79 => ⟨S_, .i32⟩
  | 80 => ⟨S1x262144, .i32⟩
  | 81 => ⟨S1x262144, .i32⟩
  | 82 => ⟨S1x262144, .i32⟩
  | 83 => ⟨S_, .i32⟩
  | 84 => ⟨S1x262144, .i32⟩
  | 85 => ⟨S1x262144, .i1⟩
  | 86 => ⟨S_, .i32⟩
  | 87 => ⟨S1x262144, .i32⟩
  | 88 => ⟨S1x262144, .i32⟩
  | 89 => ⟨S1x262144, .i32⟩
  | 90 => ⟨S1x262144x1, .i32⟩
  | 91 => ⟨S1, .i32⟩
  | 92 => ⟨S_, .i32⟩
  | 93 => ⟨S1x262144x1, .i32⟩
  | 94 => ⟨S1x262144x1, .i1⟩
  | 95 => ⟨S1x1x1, .i32⟩
  | 96 => ⟨S1x262144x1, .i32⟩
  | 97 => ⟨S1x262144x1, .i1⟩
  | 98 => ⟨S1x262144x1, .i1⟩
  | 99 => ⟨S_, .i1⟩
  | 100 => ⟨S1x262144, .i1⟩
  | 101 => ⟨S1x16x262144, .f32⟩
  | 102 => ⟨S1x16x262144, .i1⟩
  | 103 => ⟨S_, .f32⟩
  | 104 => ⟨S1x16x262144, .f32⟩
  | 105 => ⟨S1x16x262144, .f32⟩
  | 106 => ⟨S1x1x262144, .f32⟩
  | 107 => ⟨S1x16x262144, .f32⟩
  | 108 => ⟨S1x16x262144, .f32⟩
  | 109 => ⟨S1x16x262144, .f32⟩
  | 110 => ⟨S_, .f32⟩
  | 111 => ⟨S262144, .f32⟩
  | 112 => ⟨S_, .f32⟩
  | 113 => ⟨S1x262144, .f32⟩
  | 114 => ⟨S1x262144, .f32⟩
  | 115 => ⟨S1x262144, .f32⟩
  | 116 => ⟨S1x262144, .f32⟩
  | 117 => ⟨S_, .f32⟩
  | 118 => ⟨S1x262144, .f32⟩
  | 119 => ⟨S1x262144, .f32⟩
  | 120 => ⟨S1x262144, .f32⟩
  | 121 => ⟨S1x262144, .f32⟩
  | 122 => ⟨S_, .f32⟩
  | 123 => ⟨S1x262144, .f32⟩
  | 124 => ⟨S1x262144, .f32⟩
  | 125 => ⟨S1x262144, .f32⟩
  | 126 => ⟨S_, .i32⟩
  | 127 => ⟨S1x262144, .i32⟩
  | _ => ⟨S1x16x64x64x64x8, .f32⟩

abbrev hbmTy0_3 (i : Nat) : BufTy := match i % 128 with
  | 0 => ⟨S1x262144, .i32⟩
  | 1 => ⟨S1x262144, .i32⟩
  | 2 => ⟨S_, .i32⟩
  | 3 => ⟨S1x262144, .i32⟩
  | 4 => ⟨S1x262144, .i32⟩
  | 5 => ⟨S1x262144, .i32⟩
  | 6 => ⟨S_, .i32⟩
  | 7 => ⟨S1x262144, .i32⟩
  | 8 => ⟨S1x262144, .i32⟩
  | 9 => ⟨S1x262144, .i32⟩
  | 10 => ⟨S_, .i32⟩
  | 11 => ⟨S1x262144, .i32⟩
  | 12 => ⟨S1x262144, .i1⟩
  | 13 => ⟨S_, .i32⟩
  | 14 => ⟨S1x262144, .i32⟩
  | 15 => ⟨S1x262144, .i32⟩
  | 16 => ⟨S1x262144, .i32⟩
  | 17 => ⟨S1x262144x1, .i32⟩
  | 18 => ⟨S1, .i32⟩
  | 19 => ⟨S_, .i32⟩
  | 20 => ⟨S1x262144x1, .i32⟩
  | 21 => ⟨S1x262144x1, .i1⟩
  | 22 => ⟨S1x1x1, .i32⟩
  | 23 => ⟨S1x262144x1, .i32⟩
  | 24 => ⟨S1x262144x1, .i1⟩
  | 25 => ⟨S1x262144x1, .i1⟩
  | 26 => ⟨S_, .i1⟩
  | 27 => ⟨S1x262144, .i1⟩
  | 28 => ⟨S1x16x262144, .f32⟩
  | 29 => ⟨S1x16x262144, .i1⟩
  | 30 => ⟨S_, .f32⟩
  | 31 => ⟨S1x16x262144, .f32⟩
  | 32 => ⟨S1x16x262144, .f32⟩
  | 33 => ⟨S1x1x262144, .f32⟩
  | 34 => ⟨S1x16x262144, .f32⟩
  | 35 => ⟨S1x16x262144, .f32⟩
  | 36 => ⟨S1x16x262144, .f32⟩
  | 37 => ⟨S_, .f32⟩
  | 38 => ⟨S262144, .f32⟩
  | 39 => ⟨S1x262144, .f32⟩
  | 40 => ⟨S1x262144, .f32⟩
  | 41 => ⟨S_, .f32⟩
  | 42 => ⟨S1x262144, .f32⟩
  | 43 => ⟨S1x262144, .f32⟩
  | 44 => ⟨S1x262144, .f32⟩
  | 45 => ⟨S1x262144, .f32⟩
  | 46 => ⟨S_, .f32⟩
  | 47 => ⟨S1x262144, .f32⟩
  | 48 => ⟨S1x262144, .f32⟩
  | 49 => ⟨S1x262144, .f32⟩
  | 50 => ⟨S_, .i32⟩
  | 51 => ⟨S1x262144, .i32⟩
  | 52 => ⟨S1x262144, .i32⟩
  | 53 => ⟨S1x262144, .i32⟩
  | 54 => ⟨S_, .i32⟩
  | 55 => ⟨S1x262144, .i32⟩
  | 56 => ⟨S1x262144, .i32⟩
  | 57 => ⟨S1x262144, .i32⟩
  | 58 => ⟨S_, .i32⟩
  | 59 => ⟨S1x262144, .i32⟩
  | 60 => ⟨S1x262144, .i32⟩
  | 61 => ⟨S1x262144, .i32⟩
  | 62 => ⟨S_, .i32⟩
  | 63 => ⟨S1x262144, .i32⟩
  | 64 => ⟨S1x262144, .i1⟩
  | 65 => ⟨S_, .i32⟩
  | 66 => ⟨S1x262144, .i32⟩
  | 67 => ⟨S1x262144, .i32⟩
  | 68 => ⟨S1x262144, .i32⟩
  | 69 => ⟨S1x262144x1, .i32⟩
  | 70 => ⟨S1, .i32⟩
  | 71 => ⟨S_, .i32⟩
  | 72 => ⟨S1x262144x1, .i32⟩
  | 73 => ⟨S1x262144x1, .i1⟩
  | 74 => ⟨S1x1x1, .i32⟩
  | 75 => ⟨S1x262144x1, .i32⟩
  | 76 => ⟨S1x262144x1, .i1⟩
  | 77 => ⟨S1x262144x1, .i1⟩
  | 78 => ⟨S_, .i1⟩
  | 79 => ⟨S1x262144, .i1⟩
  | 80 => ⟨S1x16x262144, .f32⟩
  | 81 => ⟨S1x16x262144, .i1⟩
  | 82 => ⟨S_, .f32⟩
  | 83 => ⟨S1x16x262144, .f32⟩
  | 84 => ⟨S1x16x262144, .f32⟩
  | 85 => ⟨S1x1x262144, .f32⟩
  | 86 => ⟨S1x16x262144, .f32⟩
  | 87 => ⟨S1x16x262144, .f32⟩
  | 88 => ⟨S1x16x262144, .f32⟩
  | 89 => ⟨S_, .f32⟩
  | 90 => ⟨S262144, .f32⟩
  | 91 => ⟨S_, .f32⟩
  | 92 => ⟨S1x262144, .f32⟩
  | 93 => ⟨S1x262144, .f32⟩
  | 94 => ⟨S1x262144, .f32⟩
  | 95 => ⟨S1x262144, .f32⟩
  | 96 => ⟨S1x262144, .f32⟩
  | 97 => ⟨S1x262144, .f32⟩
  | 98 => ⟨S_, .f32⟩
  | 99 => ⟨S1x262144, .f32⟩
  | 100 => ⟨S1x262144, .f32⟩
  | 101 => ⟨S1x262144, .f32⟩
  | 102 => ⟨S_, .i32⟩
  | 103 => ⟨S1x262144, .i32⟩
  | 104 => ⟨S1x262144, .i32⟩
  | 105 => ⟨S1x262144, .i32⟩
  | 106 => ⟨S_, .i32⟩
  | 107 => ⟨S1x262144, .i32⟩
  | 108 => ⟨S1x262144, .i32⟩
  | 109 => ⟨S1x262144, .i32⟩
  | 110 => ⟨S_, .i32⟩
  | 111 => ⟨S1x262144, .i32⟩
  | 112 => ⟨S1x262144, .i32⟩
  | 113 => ⟨S1x262144, .i32⟩
  | 114 => ⟨S_, .i32⟩
  | 115 => ⟨S1x262144, .i32⟩
  | 116 => ⟨S1x262144, .i1⟩
  | 117 => ⟨S_, .i32⟩
  | 118 => ⟨S1x262144, .i32⟩
  | 119 => ⟨S1x262144, .i32⟩
  | 120 => ⟨S1x262144, .i32⟩
  | 121 => ⟨S1x262144x1, .i32⟩
  | 122 => ⟨S1, .i32⟩
  | 123 => ⟨S_, .i32⟩
  | 124 => ⟨S1x262144x1, .i32⟩
  | 125 => ⟨S1x262144x1, .i1⟩
  | 126 => ⟨S1x1x1, .i32⟩
  | 127 => ⟨S1x262144x1, .i32⟩
  | _ => ⟨S1x16x64x64x64x8, .f32⟩

abbrev hbmTy0_4 (i : Nat) : BufTy := match i % 128 with
  | 0 => ⟨S1x262144x1, .i1⟩
  | 1 => ⟨S1x262144x1, .i1⟩
  | 2 => ⟨S_, .i1⟩
  | 3 => ⟨S1x262144, .i1⟩
  | 4 => ⟨S1x16x262144, .f32⟩
  | 5 => ⟨S1x16x262144, .i1⟩
  | 6 => ⟨S_, .f32⟩
  | 7 => ⟨S1x16x262144, .f32⟩
  | 8 => ⟨S1x16x262144, .f32⟩
  | 9 => ⟨S1x1x262144, .f32⟩
  | 10 => ⟨S1x16x262144, .f32⟩
  | 11 => ⟨S1x16x262144, .f32⟩
  | 12 => ⟨S1x16x262144, .f32⟩
  | 13 => ⟨S_, .f32⟩
  | 14 => ⟨S262144, .f32⟩
  | 15 => ⟨S1x262144, .f32⟩
  | 16 => ⟨S1x262144, .f32⟩
  | 17 => ⟨S1x262144, .f32⟩
  | 18 => ⟨S1x262144, .f32⟩
  | 19 => ⟨S_, .f32⟩
  | 20 => ⟨S1x262144, .f32⟩
  | 21 => ⟨S1x262144, .f32⟩
  | 22 => ⟨S1x262144, .f32⟩
  | 23 => ⟨S_, .i32⟩
  | 24 => ⟨S1x262144, .i32⟩
  | 25 => ⟨S1x262144, .i32⟩
  | 26 => ⟨S1x262144, .i32⟩
  | 27 => ⟨S_, .i32⟩
  | 28 => ⟨S1x262144, .i32⟩
  | 29 => ⟨S1x262144, .i32⟩
  | 30 => ⟨S1x262144, .i32⟩
  | 31 => ⟨S_, .i32⟩
  | 32 => ⟨S1x262144, .i32⟩
  | 33 => ⟨S1x262144, .i32⟩
  | 34 => ⟨S1x262144, .i32⟩
  | 35 => ⟨S_, .i32⟩
  | 36 => ⟨S1x262144, .i32⟩
  | 37 => ⟨S1x262144, .i1⟩
  | 38 => ⟨S_, .i32⟩
  | 39 => ⟨S1x262144, .i32⟩
  | 40 => ⟨S1x262144, .i32⟩
  | 41 => ⟨S1x262144, .i32⟩
  | 42 => ⟨S1x262144x1, .i32⟩
  | 43 => ⟨S1, .i32⟩
  | 44 => ⟨S_, .i32⟩
  | 45 => ⟨S1x262144x1, .i32⟩
  | 46 => ⟨S1x262144x1, .i1⟩
  | 47 => ⟨S1x1x1, .i32⟩
  | 48 => ⟨S1x262144x1, .i32⟩
  | 49 => ⟨S1x262144x1, .i1⟩
  | 50 => ⟨S1x262144x1, .i1⟩
  | 51 => ⟨S_, .i1⟩
  | 52 => ⟨S1x262144, .i1⟩
  | 53 => ⟨S1x16x262144, .f32⟩
  | 54 => ⟨S1x16x262144, .i1⟩
  | 55 => ⟨S_, .f32⟩
  | 56 => ⟨S1x16x262144, .f32⟩
  | 57 => ⟨S1x16x262144, .f32⟩
  | 58 => ⟨S1x1x262144, .f32⟩
  | 59 => ⟨S1x16x262144, .f32⟩
  | 60 => ⟨S1x16x262144, .f32⟩
  | 61 => ⟨S1x16x262144, .f32⟩
  | 62 => ⟨S_, .f32⟩
  | 63 => ⟨S262144, .f32⟩
  | 64 => ⟨S_, .f32⟩
  | 65 => ⟨S1x262144, .f32⟩
  | 66 => ⟨S1x262144, .f32⟩
  | 67 => ⟨S1x262144, .f32⟩
  | 68 => ⟨S1x262144, .f32⟩
  | 69 => ⟨S_, .f32⟩
  | 70 => ⟨S1x262144, .f32⟩
  | 71 => ⟨S1x262144, .f32⟩
  | 72 => ⟨S1x262144, .f32⟩
  | 73 => ⟨S_, .f32⟩
  | 74 => ⟨S1x262144, .f32⟩
  | 75 => ⟨S1x262144, .f32⟩
  | 76 => ⟨S1x262144, .f32⟩
  | 77 => ⟨S1x262144, .f32⟩
  | 78 => ⟨S_, .i32⟩
  | 79 => ⟨S1x262144, .i32⟩
  | 80 => ⟨S1x262144, .i32⟩
  | 81 => ⟨S1x262144, .i32⟩
  | 82 => ⟨S_, .i32⟩
  | 83 => ⟨S1x262144, .i32⟩
  | 84 => ⟨S1x262144, .i32⟩
  | 85 => ⟨S1x262144, .i32⟩
  | 86 => ⟨S_, .i32⟩
  | 87 => ⟨S1x262144, .i32⟩
  | 88 => ⟨S1x262144, .i32⟩
  | 89 => ⟨S1x262144, .i32⟩
  | 90 => ⟨S_, .i32⟩
  | 91 => ⟨S1x262144, .i32⟩
  | 92 => ⟨S1x262144, .i1⟩
  | 93 => ⟨S_, .i32⟩
  | 94 => ⟨S1x262144, .i32⟩
  | 95 => ⟨S1x262144, .i32⟩
  | 96 => ⟨S1x262144, .i32⟩
  | 97 => ⟨S1x262144x1, .i32⟩
  | 98 => ⟨S1, .i32⟩
  | 99 => ⟨S_, .i32⟩
  | 100 => ⟨S1x262144x1, .i32⟩
  | 101 => ⟨S1x262144x1, .i1⟩
  | 102 => ⟨S1x1x1, .i32⟩
  | 103 => ⟨S1x262144x1, .i32⟩
  | 104 => ⟨S1x262144x1, .i1⟩
  | 105 => ⟨S1x262144x1, .i1⟩
  | 106 => ⟨S_, .i1⟩
  | 107 => ⟨S1x262144, .i1⟩
  | 108 => ⟨S1x16x262144, .f32⟩
  | 109 => ⟨S1x16x262144, .i1⟩
  | 110 => ⟨S_, .f32⟩
  | 111 => ⟨S1x16x262144, .f32⟩
  | 112 => ⟨S1x16x262144, .f32⟩
  | 113 => ⟨S1x1x262144, .f32⟩
  | 114 => ⟨S1x16x262144, .f32⟩
  | 115 => ⟨S1x16x262144, .f32⟩
  | 116 => ⟨S1x16x262144, .f32⟩
  | 117 => ⟨S_, .f32⟩
  | 118 => ⟨S262144, .f32⟩
  | 119 => ⟨S1x262144, .f32⟩
  | 120 => ⟨S1x262144, .f32⟩
  | 121 => ⟨S_, .f32⟩
  | 122 => ⟨S1x262144, .f32⟩
  | 123 => ⟨S1x262144, .f32⟩
  | 124 => ⟨S1x262144, .f32⟩
  | 125 => ⟨S_, .f32⟩
  | 126 => ⟨S1x262144, .f32⟩
  | 127 => ⟨S1x262144, .f32⟩
  | _ => ⟨S1x16x64x64x64x8, .f32⟩

abbrev hbmTy0_5 (i : Nat) : BufTy := match i % 128 with
  | 0 => ⟨S1x262144, .f32⟩
  | 1 => ⟨S1x262144, .f32⟩
  | 2 => ⟨S_, .i32⟩
  | 3 => ⟨S1x262144, .i32⟩
  | 4 => ⟨S1x262144, .i32⟩
  | 5 => ⟨S1x262144, .i32⟩
  | 6 => ⟨S_, .i32⟩
  | 7 => ⟨S1x262144, .i32⟩
  | 8 => ⟨S1x262144, .i32⟩
  | 9 => ⟨S1x262144, .i32⟩
  | 10 => ⟨S_, .i32⟩
  | 11 => ⟨S1x262144, .i32⟩
  | 12 => ⟨S1x262144, .i32⟩
  | 13 => ⟨S1x262144, .i32⟩
  | 14 => ⟨S_, .i32⟩
  | 15 => ⟨S1x262144, .i32⟩
  | 16 => ⟨S1x262144, .i1⟩
  | 17 => ⟨S_, .i32⟩
  | 18 => ⟨S1x262144, .i32⟩
  | 19 => ⟨S1x262144, .i32⟩
  | 20 => ⟨S1x262144, .i32⟩
  | 21 => ⟨S1x262144x1, .i32⟩
  | 22 => ⟨S1, .i32⟩
  | 23 => ⟨S_, .i32⟩
  | 24 => ⟨S1x262144x1, .i32⟩
  | 25 => ⟨S1x262144x1, .i1⟩
  | 26 => ⟨S1x1x1, .i32⟩
  | 27 => ⟨S1x262144x1, .i32⟩
  | 28 => ⟨S1x262144x1, .i1⟩
  | 29 => ⟨S1x262144x1, .i1⟩
  | 30 => ⟨S_, .i1⟩
  | 31 => ⟨S1x262144, .i1⟩
  | 32 => ⟨S1x16x262144, .f32⟩
  | 33 => ⟨S1x16x262144, .i1⟩
  | 34 => ⟨S_, .f32⟩
  | 35 => ⟨S1x16x262144, .f32⟩
  | 36 => ⟨S1x16x262144, .f32⟩
  | 37 => ⟨S1x1x262144, .f32⟩
  | 38 => ⟨S1x16x262144, .f32⟩
  | 39 => ⟨S1x16x262144, .f32⟩
  | 40 => ⟨S1x16x262144, .f32⟩
  | 41 => ⟨S_, .f32⟩
  | 42 => ⟨S262144, .f32⟩
  | 43 => ⟨S_, .f32⟩
  | 44 => ⟨S1x262144, .f32⟩
  | 45 => ⟨S1x262144, .f32⟩
  | 46 => ⟨S1x262144, .f32⟩
  | 47 => ⟨S1x262144, .f32⟩
  | 48 => ⟨S1x262144, .f32⟩
  | 49 => ⟨S_, .f32⟩
  | 50 => ⟨S1x262144, .f32⟩
  | 51 => ⟨S1x262144, .f32⟩
  | 52 => ⟨S1x262144, .f32⟩
  | 53 => ⟨S1x262144, .f32⟩
  | 54 => ⟨S_, .i32⟩
  | 55 => ⟨S1x262144, .i32⟩
  | 56 => ⟨S1x262144, .i32⟩
  | 57 => ⟨S1x262144, .i32⟩
  | 58 => ⟨S_, .i32⟩
  | 59 => ⟨S1x262144, .i32⟩
  | 60 => ⟨S1x262144, .i32⟩
  | 61 => ⟨S1x262144, .i32⟩
  | 62 => ⟨S_, .i32⟩
  | 63 => ⟨S1x262144, .i32⟩
  | 64 => ⟨S1x262144, .i32⟩
  | 65 => ⟨S1x262144, .i32⟩
  | 66 => ⟨S_, .i32⟩
  | 67 => ⟨S1x262144, .i32⟩
  | 68 => ⟨S1x262144, .i1⟩
  | 69 => ⟨S_, .i32⟩
  | 70 => ⟨S1x262144, .i32⟩
  | 71 => ⟨S1x262144, .i32⟩
  | 72 => ⟨S1x262144, .i32⟩
  | 73 => ⟨S1x262144x1, .i32⟩
  | 74 => ⟨S1, .i32⟩
  | 75 => ⟨S_, .i32⟩
  | 76 => ⟨S1x262144x1, .i32⟩
  | 77 => ⟨S1x262144x1, .i1⟩
  | 78 => ⟨S1x1x1, .i32⟩
  | 79 => ⟨S1x262144x1, .i32⟩
  | 80 => ⟨S1x262144x1, .i1⟩
  | 81 => ⟨S1x262144x1, .i1⟩
  | 82 => ⟨S_, .i1⟩
  | 83 => ⟨S1x262144, .i1⟩
  | 84 => ⟨S1x16x262144, .f32⟩
  | 85 => ⟨S1x16x262144, .i1⟩
  | 86 => ⟨S_, .f32⟩
  | 87 => ⟨S1x16x262144, .f32⟩
  | 88 => ⟨S1x16x262144, .f32⟩
  | 89 => ⟨S1x1x262144, .f32⟩
  | 90 => ⟨S1x16x262144, .f32⟩
  | 91 => ⟨S1x16x262144, .f32⟩
  | 92 => ⟨S1x16x262144, .f32⟩
  | 93 => ⟨S_, .f32⟩
  | 94 => ⟨S262144, .f32⟩
  | 95 => ⟨S1x262144, .f32⟩
  | 96 => ⟨S1x262144, .f32⟩
  | 97 => ⟨S1x262144, .f32⟩
  | 98 => ⟨S_, .f32⟩
  | 99 => ⟨S1x262144, .f32⟩
  | 100 => ⟨S1x262144, .f32⟩
  | 101 => ⟨S1x262144, .f32⟩
  | 102 => ⟨S1x262144, .f32⟩
  | 103 => ⟨S_, .i32⟩
  | 104 => ⟨S1x262144, .i32⟩
  | 105 => ⟨S1x262144, .i32⟩
  | 106 => ⟨S1x262144, .i32⟩
  | 107 => ⟨S_, .i32⟩
  | 108 => ⟨S1x262144, .i32⟩
  | 109 => ⟨S1x262144, .i32⟩
  | 110 => ⟨S1x262144, .i32⟩
  | 111 => ⟨S_, .i32⟩
  | 112 => ⟨S1x262144, .i32⟩
  | 113 => ⟨S1x262144, .i32⟩
  | 114 => ⟨S1x262144, .i32⟩
  | 115 => ⟨S_, .i32⟩
  | 116 => ⟨S1x262144, .i32⟩
  | 117 => ⟨S1x262144, .i1⟩
  | 118 => ⟨S_, .i32⟩
  | 119 => ⟨S1x262144, .i32⟩
  | 120 => ⟨S1x262144, .i32⟩
  | 121 => ⟨S1x262144, .i32⟩
  | 122 => ⟨S1x262144x1, .i32⟩
  | 123 => ⟨S1, .i32⟩
  | 124 => ⟨S_, .i32⟩
  | 125 => ⟨S1x262144x1, .i32⟩
  | 126 => ⟨S1x262144x1, .i1⟩
  | 127 => ⟨S1x1x1, .i32⟩
  | _ => ⟨S1x16x64x64x64x8, .f32⟩

abbrev hbmTy0_6 (i : Nat) : BufTy := match i % 128 with
  | 0 => ⟨S1x262144x1, .i32⟩
  | 1 => ⟨S1x262144x1, .i1⟩
  | 2 => ⟨S1x262144x1, .i1⟩
  | 3 => ⟨S_, .i1⟩
  | 4 => ⟨S1x262144, .i1⟩
  | 5 => ⟨S1x16x262144, .f32⟩
  | 6 => ⟨S1x16x262144, .i1⟩
  | 7 => ⟨S_, .f32⟩
  | 8 => ⟨S1x16x262144, .f32⟩
  | 9 => ⟨S1x16x262144, .f32⟩
  | 10 => ⟨S1x1x262144, .f32⟩
  | 11 => ⟨S1x16x262144, .f32⟩
  | 12 => ⟨S1x16x262144, .f32⟩
  | 13 => ⟨S1x16x262144, .f32⟩
  | 14 => ⟨S_, .f32⟩
  | 15 => ⟨S262144, .f32⟩
  | 16 => ⟨S_, .f32⟩
  | 17 => ⟨S1x262144, .f32⟩
  | 18 => ⟨S1x262144, .f32⟩
  | 19 => ⟨S1x262144, .f32⟩
  | 20 => ⟨S1x262144, .f32⟩
  | 21 => ⟨S_, .f32⟩
  | 22 => ⟨S1x262144, .f32⟩
  | 23 => ⟨S1x262144, .f32⟩
  | 24 => ⟨S1x262144, .f32⟩
  | 25 => ⟨S1x262144, .f32⟩
  | 26 => ⟨S1x262144, .f32⟩
  | 27 => ⟨S_, .i32⟩
  | 28 => ⟨S1x262144, .i32⟩
  | 29 => ⟨S1x262144, .i32⟩
  | 30 => ⟨S1x262144, .i32⟩
  | 31 => ⟨S_, .i32⟩
  | 32 => ⟨S1x262144, .i32⟩
  | 33 => ⟨S1x262144, .i32⟩
  | 34 => ⟨S1x262144, .i32⟩
  | 35 => ⟨S_, .i32⟩
  | 36 => ⟨S1x262144, .i32⟩
  | 37 => ⟨S1x262144, .i32⟩
  | 38 => ⟨S1x262144, .i32⟩
  | 39 => ⟨S_, .i32⟩
  | 40 => ⟨S1x262144, .i32⟩
  | 41 => ⟨S1x262144, .i1⟩
  | 42 => ⟨S_, .i32⟩
  | 43 => ⟨S1x262144, .i32⟩
  | 44 => ⟨S1x262144, .i32⟩
  | 45 => ⟨S1x262144, .i32⟩
  | 46 => ⟨S1x262144x1, .i32⟩
  | 47 => ⟨S1, .i32⟩
  | 48 => ⟨S_, .i32⟩
  | 49 => ⟨S1x262144x1, .i32⟩
  | 50 => ⟨S1x262144x1, .i1⟩
  | 51 => ⟨S1x1x1, .i32⟩
  | 52 => ⟨S1x262144x1, .i32⟩
  | 53 => ⟨S1x262144x1, .i1⟩
  | 54 => ⟨S1x262144x1, .i1⟩
  | 55 => ⟨S_, .i1⟩
  | 56 => ⟨S1x262144, .i1⟩
  | 57 => ⟨S1x16x262144, .f32⟩
  | 58 => ⟨S1x16x262144, .i1⟩
  | 59 => ⟨S_, .f32⟩
  | 60 => ⟨S1x16x262144, .f32⟩
  | 61 => ⟨S1x16x262144, .f32⟩
  | 62 => ⟨S1x1x262144, .f32⟩
  | 63 => ⟨S1x16x262144, .f32⟩
  | 64 => ⟨S1x16x262144, .f32⟩
  | 65 => ⟨S1x16x262144, .f32⟩
  | 66 => ⟨S_, .f32⟩
  | 67 => ⟨S262144, .f32⟩
  | 68 => ⟨S1x262144, .f32⟩
  | 69 => ⟨S1x262144, .f32⟩
  | 70 => ⟨S_, .f32⟩
  | 71 => ⟨S1x262144, .f32⟩
  | 72 => ⟨S1x262144, .f32⟩
  | 73 => ⟨S1x262144, .f32⟩
  | 74 => ⟨S1x262144, .f32⟩
  | 75 => ⟨S1x262144, .f32⟩
  | 76 => ⟨S_, .i32⟩
  | 77 => ⟨S1x262144, .i32⟩
  | 78 => ⟨S1x262144, .i32⟩
  | 79 => ⟨S1x262144, .i32⟩
  | 80 => ⟨S_, .i32⟩
  | 81 => ⟨S1x262144, .i32⟩
  | 82 => ⟨S1x262144, .i32⟩
  | 83 => ⟨S1x262144, .i32⟩
  | 84 => ⟨S_, .i32⟩
  | 85 => ⟨S1x262144, .i32⟩
  | 86 => ⟨S1x262144, .i32⟩
  | 87 => ⟨S1x262144, .i32⟩
  | 88 => ⟨S_, .i32⟩
  | 89 => ⟨S1x262144, .i32⟩
  | 90 => ⟨S1x262144, .i1⟩
  | 91 => ⟨S_, .i32⟩
  | 92 => ⟨S1x262144, .i32⟩
  | 93 => ⟨S1x262144, .i32⟩
  | 94 => ⟨S1x262144, .i32⟩
  | 95 => ⟨S1x262144x1, .i32⟩
  | 96 => ⟨S1, .i32⟩
  | 97 => ⟨S_, .i32⟩
  | 98 => ⟨S1x262144x1, .i32⟩
  | 99 => ⟨S1x262144x1, .i1⟩
  | 100 => ⟨S1x1x1, .i32⟩
  | 101 => ⟨S1x262144x1, .i32⟩
  | 102 => ⟨S1x262144x1, .i1⟩
  | 103 => ⟨S1x262144x1, .i1⟩
  | 104 => ⟨S_, .i1⟩
  | 105 => ⟨S1x262144, .i1⟩
  | 106 => ⟨S1x16x262144, .f32⟩
  | 107 => ⟨S1x16x262144, .i1⟩
  | 108 => ⟨S_, .f32⟩
  | 109 => ⟨S1x16x262144, .f32⟩
  | 110 => ⟨S1x16x262144, .f32⟩
  | 111 => ⟨S1x1x262144, .f32⟩
  | 112 => ⟨S1x16x262144, .f32⟩
  | 113 => ⟨S1x16x262144, .f32⟩
  | 114 => ⟨S1x16x262144, .f32⟩
  | 115 => ⟨S_, .f32⟩
  | 116 => ⟨S262144, .f32⟩
  | 117 => ⟨S_, .f32⟩
  | 118 => ⟨S1x262144, .f32⟩
  | 119 => ⟨S1x262144, .f32⟩
  | 120 => ⟨S1x262144, .f32⟩
  | 121 => ⟨S1x262144, .f32⟩
  | 122 => ⟨S1x262144, .f32⟩
  | 123 => ⟨S1x262144, .f32⟩
  | 124 => ⟨S1x262144, .f32⟩
  | 125 => ⟨S_, .i32⟩
  | 126 => ⟨S1x262144, .i32⟩
  | 127 => ⟨S1x262144, .i32⟩
  | _ => ⟨S1x16x64x64x64x8, .f32⟩

abbrev hbmTy0_7 (i : Nat) : BufTy := match i % 128 with
  | 0 => ⟨S1x262144, .i32⟩
  | 1 => ⟨S_, .i32⟩
  | 2 => ⟨S1x262144, .i32⟩
  | 3 => ⟨S1x262144, .i32⟩
  | 4 => ⟨S1x262144, .i32⟩
  | 5 => ⟨S_, .i32⟩
  | 6 => ⟨S1x262144, .i32⟩
  | 7 => ⟨S1x262144, .i32⟩
  | 8 => ⟨S1x262144, .i32⟩
  | 9 => ⟨S_, .i32⟩
  | 10 => ⟨S1x262144, .i32⟩
  | 11 => ⟨S1x262144, .i1⟩
  | 12 => ⟨S_, .i32⟩
  | 13 => ⟨S1x262144, .i32⟩
  | 14 => ⟨S1x262144, .i32⟩
  | 15 => ⟨S1x262144, .i32⟩
  | 16 => ⟨S1x262144x1, .i32⟩
  | 17 => ⟨S1, .i32⟩
  | 18 => ⟨S_, .i32⟩
  | 19 => ⟨S1x262144x1, .i32⟩
  | 20 => ⟨S1x262144x1, .i1⟩
  | 21 => ⟨S1x1x1, .i32⟩
  | 22 => ⟨S1x262144x1, .i32⟩
  | 23 => ⟨S1x262144x1, .i1⟩
  | 24 => ⟨S1x262144x1, .i1⟩
  | 25 => ⟨S_, .i1⟩
  | 26 => ⟨S1x262144, .i1⟩
  | 27 => ⟨S1x16x262144, .f32⟩
  | 28 => ⟨S1x16x262144, .i1⟩
  | 29 => ⟨S_, .f32⟩
  | 30 => ⟨S1x16x262144, .f32⟩
  | 31 => ⟨S1x16x262144, .f32⟩
  | 32 => ⟨S1x1x262144, .f32⟩
  | 33 => ⟨S1x16x262144, .f32⟩
  | 34 => ⟨S1x16x262144, .f32⟩
  | 35 => ⟨S1x16x262144, .f32⟩
  | 36 => ⟨S_, .f32⟩
  | 37 => ⟨S262144, .f32⟩
  | 38 => ⟨S1x262144, .f32⟩
  | 39 => ⟨S1x262144, .f32⟩
  | 40 => ⟨S1x262144, .f32⟩
  | 41 => ⟨S1x262144, .f32⟩
  | 42 => ⟨S1x262144, .f32⟩
  | 43 => ⟨S_, .i32⟩
  | 44 => ⟨S1x262144, .i32⟩
  | 45 => ⟨S1x262144, .i32⟩
  | 46 => ⟨S1x262144, .i32⟩
  | 47 => ⟨S_, .i32⟩
  | 48 => ⟨S1x262144, .i32⟩
  | 49 => ⟨S1x262144, .i32⟩
  | 50 => ⟨S1x262144, .i32⟩
  | 51 => ⟨S_, .i32⟩
  | 52 => ⟨S1x262144, .i32⟩
  | 53 => ⟨S1x262144, .i32⟩
  | 54 => ⟨S1x262144, .i32⟩
  | 55 => ⟨S_, .i32⟩
  | 56 => ⟨S1x262144, .i32⟩
  | 57 => ⟨S1x262144, .i1⟩
  | 58 => ⟨S_, .i32⟩
  | 59 => ⟨S1x262144, .i32⟩
  | 60 => ⟨S1x262144, .i32⟩
  | 61 => ⟨S1x262144, .i32⟩
  | 62 => ⟨S1x262144x1, .i32⟩
  | 63 => ⟨S1, .i32⟩
  | 64 => ⟨S_, .i32⟩
  | 65 => ⟨S1x262144x1, .i32⟩
  | 66 => ⟨S1x262144x1, .i1⟩
  | 67 => ⟨S1x1x1, .i32⟩
  | 68 => ⟨S1x262144x1, .i32⟩
  | 69 => ⟨S1x262144x1, .i1⟩
  | 70 => ⟨S1x262144x1, .i1⟩
  | 71 => ⟨S_, .i1⟩
  | 72 => ⟨S1x262144, .i1⟩
  | 73 => ⟨S1x16x262144, .f32⟩
  | 74 => ⟨S1x16x262144, .i1⟩
  | 75 => ⟨S_, .f32⟩
  | 76 => ⟨S1x16x262144, .f32⟩
  | 77 => ⟨S1x16x262144, .f32⟩
  | 78 => ⟨S1x1x262144, .f32⟩
  | 79 => ⟨S1x16x262144, .f32⟩
  | 80 => ⟨S1x16x262144, .f32⟩
  | 81 => ⟨S1x16x262144, .f32⟩
  | 82 => ⟨S1x16x64x64x64, .f32⟩
  | _ => ⟨S1x16x64x64x64x8, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S1x16x64x64x64x8, .f32⟩

abbrev bufTy : (tb : Table) → Fin (tcTables nBuf tb) → BufTy
  | .hbm, ⟨i, _⟩ => hbmTy i
  | _, _ => ⟨S1x16x64x64x64x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_c : Ref sig .tc := ⟨.hbm, 59, rfl⟩
abbrev main_c_6 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v50 : Ref sig .tc := ⟨.hbm, 66, rfl⟩
abbrev main_v51 : Ref sig .tc := ⟨.hbm, 67, rfl⟩
abbrev main_c_7 : Ref sig .tc := ⟨.hbm, 68, rfl⟩
abbrev main_c_8 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v52 : Ref sig .tc := ⟨.hbm, 75, rfl⟩
abbrev main_v53 : Ref sig .tc := ⟨.hbm, 76, rfl⟩
abbrev main_c_9 : Ref sig .tc := ⟨.hbm, 77, rfl⟩
abbrev main_c_10 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_c_12 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_v56 : Ref sig .tc := ⟨.hbm, 93, rfl⟩
abbrev main_v57 : Ref sig .tc := ⟨.hbm, 94, rfl⟩
abbrev main_c_13 : Ref sig .tc := ⟨.hbm, 95, rfl⟩
abbrev main_v58 : Ref sig .tc := ⟨.hbm, 96, rfl⟩
abbrev main_v59 : Ref sig .tc := ⟨.hbm, 97, rfl⟩
abbrev main_c_14 : Ref sig .tc := ⟨.hbm, 98, rfl⟩
abbrev main_c_15 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_v60 : Ref sig .tc := ⟨.hbm, 105, rfl⟩
abbrev main_v61 : Ref sig .tc := ⟨.hbm, 106, rfl⟩
abbrev main_c_16 : Ref sig .tc := ⟨.hbm, 107, rfl⟩
abbrev main_v62 : Ref sig .tc := ⟨.hbm, 108, rfl⟩
abbrev main_v63 : Ref sig .tc := ⟨.hbm, 109, rfl⟩
abbrev main_c_17 : Ref sig .tc := ⟨.hbm, 110, rfl⟩
abbrev main_c_18 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_v64 : Ref sig .tc := ⟨.hbm, 117, rfl⟩
abbrev main_v65 : Ref sig .tc := ⟨.hbm, 118, rfl⟩
abbrev main_c_19 : Ref sig .tc := ⟨.hbm, 119, rfl⟩
abbrev main_v66 : Ref sig .tc := ⟨.hbm, 120, rfl⟩
abbrev main_v67 : Ref sig .tc := ⟨.hbm, 121, rfl⟩
abbrev main_c_20 : Ref sig .tc := ⟨.hbm, 122, rfl⟩
abbrev main_c_21 : Ref sig .tc := ⟨.hbm, 123, rfl⟩
abbrev main_call6_v0 : Ref sig .tc := ⟨.hbm, 124, rfl⟩
abbrev main_call6_v1 : Ref sig .tc := ⟨.hbm, 125, rfl⟩
abbrev main_call6_v2 : Ref sig .tc := ⟨.hbm, 126, rfl⟩
abbrev main_call6_v3 : Ref sig .tc := ⟨.hbm, 127, rfl⟩
abbrev main_call6_v4 : Ref sig .tc := ⟨.hbm, 128, rfl⟩
abbrev main_v68 : Ref sig .tc := ⟨.hbm, 129, rfl⟩
abbrev main_v69 : Ref sig .tc := ⟨.hbm, 130, rfl⟩
abbrev main_c_22 : Ref sig .tc := ⟨.hbm, 131, rfl⟩
abbrev main_v70 : Ref sig .tc := ⟨.hbm, 132, rfl⟩
abbrev main_v71 : Ref sig .tc := ⟨.hbm, 133, rfl⟩
abbrev main_c_23 : Ref sig .tc := ⟨.hbm, 134, rfl⟩
abbrev main_c_24 : Ref sig .tc := ⟨.hbm, 135, rfl⟩
abbrev main_call7_v0 : Ref sig .tc := ⟨.hbm, 136, rfl⟩
abbrev main_call7_v1 : Ref sig .tc := ⟨.hbm, 137, rfl⟩
abbrev main_call7_v2 : Ref sig .tc := ⟨.hbm, 138, rfl⟩
abbrev main_call7_v3 : Ref sig .tc := ⟨.hbm, 139, rfl⟩
abbrev main_call7_v4 : Ref sig .tc := ⟨.hbm, 140, rfl⟩
abbrev main_v72 : Ref sig .tc := ⟨.hbm, 141, rfl⟩
abbrev main_v73 : Ref sig .tc := ⟨.hbm, 142, rfl⟩
abbrev main_cst_25 : Ref sig .tc := ⟨.hbm, 143, rfl⟩
abbrev main_v74 : Ref sig .tc := ⟨.hbm, 144, rfl⟩
abbrev main_cst_26 : Ref sig .tc := ⟨.hbm, 145, rfl⟩
abbrev main_v75 : Ref sig .tc := ⟨.hbm, 146, rfl⟩
abbrev main_cst_27 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_cst_28 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_cst_29 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_cst_30 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_c_31 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_c_32 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_c_33 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_call8_c : Ref sig .tc := ⟨.hbm, 176, rfl⟩
abbrev main_call8_v0 : Ref sig .tc := ⟨.hbm, 177, rfl⟩
abbrev main_call8_v1 : Ref sig .tc := ⟨.hbm, 178, rfl⟩
abbrev main_call8_c_0 : Ref sig .tc := ⟨.hbm, 179, rfl⟩
abbrev main_call8_v2 : Ref sig .tc := ⟨.hbm, 180, rfl⟩
abbrev main_call8_v3 : Ref sig .tc := ⟨.hbm, 181, rfl⟩
abbrev main_call8_v4 : Ref sig .tc := ⟨.hbm, 182, rfl⟩
abbrev main_call8_v5 : Ref sig .tc := ⟨.hbm, 183, rfl⟩
abbrev main_call8_c_1 : Ref sig .tc := ⟨.hbm, 184, rfl⟩
abbrev main_call8_c_2 : Ref sig .tc := ⟨.hbm, 185, rfl⟩
abbrev main_call8_v6 : Ref sig .tc := ⟨.hbm, 186, rfl⟩
abbrev main_call8_v7 : Ref sig .tc := ⟨.hbm, 187, rfl⟩
abbrev main_call8_v8 : Ref sig .tc := ⟨.hbm, 188, rfl⟩
abbrev main_call8_v9 : Ref sig .tc := ⟨.hbm, 189, rfl⟩
abbrev main_call8_v10 : Ref sig .tc := ⟨.hbm, 190, rfl⟩
abbrev main_call8_v11 : Ref sig .tc := ⟨.hbm, 191, rfl⟩
abbrev main_call8_c_3 : Ref sig .tc := ⟨.hbm, 192, rfl⟩
abbrev main_call8_v12 : Ref sig .tc := ⟨.hbm, 193, rfl⟩
abbrev main_call8_v13 : Ref sig .tc := ⟨.hbm, 194, rfl⟩
abbrev main_call8_v14 : Ref sig .tc := ⟨.hbm, 195, rfl⟩
abbrev main_call8_cst : Ref sig .tc := ⟨.hbm, 196, rfl⟩
abbrev main_call8_v15 : Ref sig .tc := ⟨.hbm, 197, rfl⟩
abbrev main_v98 : Ref sig .tc := ⟨.hbm, 198, rfl⟩
abbrev main_v99 : Ref sig .tc := ⟨.hbm, 199, rfl⟩
abbrev main_v100 : Ref sig .tc := ⟨.hbm, 200, rfl⟩
abbrev main_v101 : Ref sig .tc := ⟨.hbm, 201, rfl⟩
abbrev main_v102 : Ref sig .tc := ⟨.hbm, 202, rfl⟩
abbrev main_v103 : Ref sig .tc := ⟨.hbm, 203, rfl⟩
abbrev main_cst_34 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_cst_35 : Ref sig .tc := ⟨.hbm, 208, rfl⟩
abbrev main_v107 : Ref sig .tc := ⟨.hbm, 209, rfl⟩
abbrev main_v108 : Ref sig .tc := ⟨.hbm, 210, rfl⟩
abbrev main_v109 : Ref sig .tc := ⟨.hbm, 211, rfl⟩
abbrev main_cst_36 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_cst_37 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_c_38 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_c_39 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_c_40 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_call9_c : Ref sig .tc := ⟨.hbm, 232, rfl⟩
abbrev main_call9_v0 : Ref sig .tc := ⟨.hbm, 233, rfl⟩
abbrev main_call9_v1 : Ref sig .tc := ⟨.hbm, 234, rfl⟩
abbrev main_call9_c_0 : Ref sig .tc := ⟨.hbm, 235, rfl⟩
abbrev main_call9_v2 : Ref sig .tc := ⟨.hbm, 236, rfl⟩
abbrev main_call9_v3 : Ref sig .tc := ⟨.hbm, 237, rfl⟩
abbrev main_call9_v4 : Ref sig .tc := ⟨.hbm, 238, rfl⟩
abbrev main_call9_v5 : Ref sig .tc := ⟨.hbm, 239, rfl⟩
abbrev main_call9_c_1 : Ref sig .tc := ⟨.hbm, 240, rfl⟩
abbrev main_call9_c_2 : Ref sig .tc := ⟨.hbm, 241, rfl⟩
abbrev main_call9_v6 : Ref sig .tc := ⟨.hbm, 242, rfl⟩
abbrev main_call9_v7 : Ref sig .tc := ⟨.hbm, 243, rfl⟩
abbrev main_call9_v8 : Ref sig .tc := ⟨.hbm, 244, rfl⟩
abbrev main_call9_v9 : Ref sig .tc := ⟨.hbm, 245, rfl⟩
abbrev main_call9_v10 : Ref sig .tc := ⟨.hbm, 246, rfl⟩
abbrev main_call9_v11 : Ref sig .tc := ⟨.hbm, 247, rfl⟩
abbrev main_call9_c_3 : Ref sig .tc := ⟨.hbm, 248, rfl⟩
abbrev main_call9_v12 : Ref sig .tc := ⟨.hbm, 249, rfl⟩
abbrev main_call9_v13 : Ref sig .tc := ⟨.hbm, 250, rfl⟩
abbrev main_call9_v14 : Ref sig .tc := ⟨.hbm, 251, rfl⟩
abbrev main_call9_cst : Ref sig .tc := ⟨.hbm, 252, rfl⟩
abbrev main_call9_v15 : Ref sig .tc := ⟨.hbm, 253, rfl⟩
abbrev main_v125 : Ref sig .tc := ⟨.hbm, 254, rfl⟩
abbrev main_v126 : Ref sig .tc := ⟨.hbm, 255, rfl⟩
abbrev main_v127 : Ref sig .tc := ⟨.hbm, 256, rfl⟩
abbrev main_v128 : Ref sig .tc := ⟨.hbm, 257, rfl⟩
abbrev main_v129 : Ref sig .tc := ⟨.hbm, 258, rfl⟩
abbrev main_cst_41 : Ref sig .tc := ⟨.hbm, 259, rfl⟩
abbrev main_v130 : Ref sig .tc := ⟨.hbm, 260, rfl⟩
abbrev main_cst_42 : Ref sig .tc := ⟨.hbm, 261, rfl⟩
abbrev main_v131 : Ref sig .tc := ⟨.hbm, 262, rfl⟩
abbrev main_v132 : Ref sig .tc := ⟨.hbm, 263, rfl⟩
abbrev main_v133 : Ref sig .tc := ⟨.hbm, 264, rfl⟩
abbrev main_v134 : Ref sig .tc := ⟨.hbm, 265, rfl⟩
abbrev main_v135 : Ref sig .tc := ⟨.hbm, 266, rfl⟩
abbrev main_cst_43 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_cst_44 : Ref sig .tc := ⟨.hbm, 271, rfl⟩
abbrev main_v139 : Ref sig .tc := ⟨.hbm, 272, rfl⟩
abbrev main_v140 : Ref sig .tc := ⟨.hbm, 273, rfl⟩
abbrev main_v141 : Ref sig .tc := ⟨.hbm, 274, rfl⟩
abbrev main_c_45 : Ref sig .tc := ⟨.hbm, 275, rfl⟩
abbrev main_v142 : Ref sig .tc := ⟨.hbm, 276, rfl⟩
abbrev main_v143 : Ref sig .tc := ⟨.hbm, 277, rfl⟩
abbrev main_v144 : Ref sig .tc := ⟨.hbm, 278, rfl⟩
abbrev main_c_46 : Ref sig .tc := ⟨.hbm, 279, rfl⟩
abbrev main_v145 : Ref sig .tc := ⟨.hbm, 280, rfl⟩
abbrev main_v146 : Ref sig .tc := ⟨.hbm, 281, rfl⟩
abbrev main_v147 : Ref sig .tc := ⟨.hbm, 282, rfl⟩
abbrev main_c_47 : Ref sig .tc := ⟨.hbm, 283, rfl⟩
abbrev main_v148 : Ref sig .tc := ⟨.hbm, 284, rfl⟩
abbrev main_v149 : Ref sig .tc := ⟨.hbm, 285, rfl⟩
abbrev main_v150 : Ref sig .tc := ⟨.hbm, 286, rfl⟩
abbrev main_call10_c : Ref sig .tc := ⟨.hbm, 287, rfl⟩
abbrev main_call10_v0 : Ref sig .tc := ⟨.hbm, 288, rfl⟩
abbrev main_call10_v1 : Ref sig .tc := ⟨.hbm, 289, rfl⟩
abbrev main_call10_c_0 : Ref sig .tc := ⟨.hbm, 290, rfl⟩
abbrev main_call10_v2 : Ref sig .tc := ⟨.hbm, 291, rfl⟩
abbrev main_call10_v3 : Ref sig .tc := ⟨.hbm, 292, rfl⟩
abbrev main_call10_v4 : Ref sig .tc := ⟨.hbm, 293, rfl⟩
abbrev main_call10_v5 : Ref sig .tc := ⟨.hbm, 294, rfl⟩
abbrev main_call10_c_1 : Ref sig .tc := ⟨.hbm, 295, rfl⟩
abbrev main_call10_c_2 : Ref sig .tc := ⟨.hbm, 296, rfl⟩
abbrev main_call10_v6 : Ref sig .tc := ⟨.hbm, 297, rfl⟩
abbrev main_call10_v7 : Ref sig .tc := ⟨.hbm, 298, rfl⟩
abbrev main_call10_v8 : Ref sig .tc := ⟨.hbm, 299, rfl⟩
abbrev main_call10_v9 : Ref sig .tc := ⟨.hbm, 300, rfl⟩
abbrev main_call10_v10 : Ref sig .tc := ⟨.hbm, 301, rfl⟩
abbrev main_call10_v11 : Ref sig .tc := ⟨.hbm, 302, rfl⟩
abbrev main_call10_c_3 : Ref sig .tc := ⟨.hbm, 303, rfl⟩
abbrev main_call10_v12 : Ref sig .tc := ⟨.hbm, 304, rfl⟩
abbrev main_call10_v13 : Ref sig .tc := ⟨.hbm, 305, rfl⟩
abbrev main_call10_v14 : Ref sig .tc := ⟨.hbm, 306, rfl⟩
abbrev main_call10_cst : Ref sig .tc := ⟨.hbm, 307, rfl⟩
abbrev main_call10_v15 : Ref sig .tc := ⟨.hbm, 308, rfl⟩
abbrev main_v151 : Ref sig .tc := ⟨.hbm, 309, rfl⟩
abbrev main_v152 : Ref sig .tc := ⟨.hbm, 310, rfl⟩
abbrev main_v153 : Ref sig .tc := ⟨.hbm, 311, rfl⟩
abbrev main_v154 : Ref sig .tc := ⟨.hbm, 312, rfl⟩
abbrev main_v155 : Ref sig .tc := ⟨.hbm, 313, rfl⟩
abbrev main_cst_48 : Ref sig .tc := ⟨.hbm, 314, rfl⟩
abbrev main_v156 : Ref sig .tc := ⟨.hbm, 315, rfl⟩
abbrev main_v157 : Ref sig .tc := ⟨.hbm, 316, rfl⟩
abbrev main_v158 : Ref sig .tc := ⟨.hbm, 317, rfl⟩
abbrev main_v159 : Ref sig .tc := ⟨.hbm, 318, rfl⟩
abbrev main_cst_49 : Ref sig .tc := ⟨.hbm, 319, rfl⟩
abbrev main_v160 : Ref sig .tc := ⟨.hbm, 320, rfl⟩
abbrev main_v161 : Ref sig .tc := ⟨.hbm, 321, rfl⟩
abbrev main_v162 : Ref sig .tc := ⟨.hbm, 322, rfl⟩
abbrev main_cst_50 : Ref sig .tc := ⟨.hbm, 323, rfl⟩
abbrev main_v163 : Ref sig .tc := ⟨.hbm, 324, rfl⟩
abbrev main_v164 : Ref sig .tc := ⟨.hbm, 325, rfl⟩
abbrev main_v165 : Ref sig .tc := ⟨.hbm, 326, rfl⟩
abbrev main_c_51 : Ref sig .tc := ⟨.hbm, 327, rfl⟩
abbrev main_v166 : Ref sig .tc := ⟨.hbm, 328, rfl⟩
abbrev main_v167 : Ref sig .tc := ⟨.hbm, 329, rfl⟩
abbrev main_v168 : Ref sig .tc := ⟨.hbm, 330, rfl⟩
abbrev main_c_52 : Ref sig .tc := ⟨.hbm, 331, rfl⟩
abbrev main_v169 : Ref sig .tc := ⟨.hbm, 332, rfl⟩
abbrev main_v170 : Ref sig .tc := ⟨.hbm, 333, rfl⟩
abbrev main_v171 : Ref sig .tc := ⟨.hbm, 334, rfl⟩
abbrev main_c_53 : Ref sig .tc := ⟨.hbm, 335, rfl⟩
abbrev main_v172 : Ref sig .tc := ⟨.hbm, 336, rfl⟩
abbrev main_v173 : Ref sig .tc := ⟨.hbm, 337, rfl⟩
abbrev main_v174 : Ref sig .tc := ⟨.hbm, 338, rfl⟩
abbrev main_call11_c : Ref sig .tc := ⟨.hbm, 339, rfl⟩
abbrev main_call11_v0 : Ref sig .tc := ⟨.hbm, 340, rfl⟩
abbrev main_call11_v1 : Ref sig .tc := ⟨.hbm, 341, rfl⟩
abbrev main_call11_c_0 : Ref sig .tc := ⟨.hbm, 342, rfl⟩
abbrev main_call11_v2 : Ref sig .tc := ⟨.hbm, 343, rfl⟩
abbrev main_call11_v3 : Ref sig .tc := ⟨.hbm, 344, rfl⟩
abbrev main_call11_v4 : Ref sig .tc := ⟨.hbm, 345, rfl⟩
abbrev main_call11_v5 : Ref sig .tc := ⟨.hbm, 346, rfl⟩
abbrev main_call11_c_1 : Ref sig .tc := ⟨.hbm, 347, rfl⟩
abbrev main_call11_c_2 : Ref sig .tc := ⟨.hbm, 348, rfl⟩
abbrev main_call11_v6 : Ref sig .tc := ⟨.hbm, 349, rfl⟩
abbrev main_call11_v7 : Ref sig .tc := ⟨.hbm, 350, rfl⟩
abbrev main_call11_v8 : Ref sig .tc := ⟨.hbm, 351, rfl⟩
abbrev main_call11_v9 : Ref sig .tc := ⟨.hbm, 352, rfl⟩
abbrev main_call11_v10 : Ref sig .tc := ⟨.hbm, 353, rfl⟩
abbrev main_call11_v11 : Ref sig .tc := ⟨.hbm, 354, rfl⟩
abbrev main_call11_c_3 : Ref sig .tc := ⟨.hbm, 355, rfl⟩
abbrev main_call11_v12 : Ref sig .tc := ⟨.hbm, 356, rfl⟩
abbrev main_call11_v13 : Ref sig .tc := ⟨.hbm, 357, rfl⟩
abbrev main_call11_v14 : Ref sig .tc := ⟨.hbm, 358, rfl⟩
abbrev main_call11_cst : Ref sig .tc := ⟨.hbm, 359, rfl⟩
abbrev main_call11_v15 : Ref sig .tc := ⟨.hbm, 360, rfl⟩
abbrev main_v175 : Ref sig .tc := ⟨.hbm, 361, rfl⟩
abbrev main_v176 : Ref sig .tc := ⟨.hbm, 362, rfl⟩
abbrev main_v177 : Ref sig .tc := ⟨.hbm, 363, rfl⟩
abbrev main_v178 : Ref sig .tc := ⟨.hbm, 364, rfl⟩
abbrev main_v179 : Ref sig .tc := ⟨.hbm, 365, rfl⟩
abbrev main_cst_54 : Ref sig .tc := ⟨.hbm, 366, rfl⟩
abbrev main_v180 : Ref sig .tc := ⟨.hbm, 367, rfl⟩
abbrev main_cst_55 : Ref sig .tc := ⟨.hbm, 368, rfl⟩
abbrev main_v181 : Ref sig .tc := ⟨.hbm, 369, rfl⟩
abbrev main_v182 : Ref sig .tc := ⟨.hbm, 370, rfl⟩
abbrev main_v183 : Ref sig .tc := ⟨.hbm, 371, rfl⟩
abbrev main_v184 : Ref sig .tc := ⟨.hbm, 372, rfl⟩
abbrev main_cst_56 : Ref sig .tc := ⟨.hbm, 373, rfl⟩
abbrev main_v185 : Ref sig .tc := ⟨.hbm, 374, rfl⟩
abbrev main_v186 : Ref sig .tc := ⟨.hbm, 375, rfl⟩
abbrev main_v187 : Ref sig .tc := ⟨.hbm, 376, rfl⟩
abbrev main_v188 : Ref sig .tc := ⟨.hbm, 377, rfl⟩
abbrev main_cst_57 : Ref sig .tc := ⟨.hbm, 378, rfl⟩
abbrev main_v189 : Ref sig .tc := ⟨.hbm, 379, rfl⟩
abbrev main_v190 : Ref sig .tc := ⟨.hbm, 380, rfl⟩
abbrev main_v191 : Ref sig .tc := ⟨.hbm, 381, rfl⟩
abbrev main_c_58 : Ref sig .tc := ⟨.hbm, 382, rfl⟩
abbrev main_v192 : Ref sig .tc := ⟨.hbm, 383, rfl⟩
abbrev main_v193 : Ref sig .tc := ⟨.hbm, 384, rfl⟩
abbrev main_v194 : Ref sig .tc := ⟨.hbm, 385, rfl⟩
abbrev main_c_59 : Ref sig .tc := ⟨.hbm, 386, rfl⟩
abbrev main_v195 : Ref sig .tc := ⟨.hbm, 387, rfl⟩
abbrev main_v196 : Ref sig .tc := ⟨.hbm, 388, rfl⟩
abbrev main_v197 : Ref sig .tc := ⟨.hbm, 389, rfl⟩
abbrev main_c_60 : Ref sig .tc := ⟨.hbm, 390, rfl⟩
abbrev main_v198 : Ref sig .tc := ⟨.hbm, 391, rfl⟩
abbrev main_v199 : Ref sig .tc := ⟨.hbm, 392, rfl⟩
abbrev main_v200 : Ref sig .tc := ⟨.hbm, 393, rfl⟩
abbrev main_call12_c : Ref sig .tc := ⟨.hbm, 394, rfl⟩
abbrev main_call12_v0 : Ref sig .tc := ⟨.hbm, 395, rfl⟩
abbrev main_call12_v1 : Ref sig .tc := ⟨.hbm, 396, rfl⟩
abbrev main_call12_c_0 : Ref sig .tc := ⟨.hbm, 397, rfl⟩
abbrev main_call12_v2 : Ref sig .tc := ⟨.hbm, 398, rfl⟩
abbrev main_call12_v3 : Ref sig .tc := ⟨.hbm, 399, rfl⟩
abbrev main_call12_v4 : Ref sig .tc := ⟨.hbm, 400, rfl⟩
abbrev main_call12_v5 : Ref sig .tc := ⟨.hbm, 401, rfl⟩
abbrev main_call12_c_1 : Ref sig .tc := ⟨.hbm, 402, rfl⟩
abbrev main_call12_c_2 : Ref sig .tc := ⟨.hbm, 403, rfl⟩
abbrev main_call12_v6 : Ref sig .tc := ⟨.hbm, 404, rfl⟩
abbrev main_call12_v7 : Ref sig .tc := ⟨.hbm, 405, rfl⟩
abbrev main_call12_v8 : Ref sig .tc := ⟨.hbm, 406, rfl⟩
abbrev main_call12_v9 : Ref sig .tc := ⟨.hbm, 407, rfl⟩
abbrev main_call12_v10 : Ref sig .tc := ⟨.hbm, 408, rfl⟩
abbrev main_call12_v11 : Ref sig .tc := ⟨.hbm, 409, rfl⟩
abbrev main_call12_c_3 : Ref sig .tc := ⟨.hbm, 410, rfl⟩
abbrev main_call12_v12 : Ref sig .tc := ⟨.hbm, 411, rfl⟩
abbrev main_call12_v13 : Ref sig .tc := ⟨.hbm, 412, rfl⟩
abbrev main_call12_v14 : Ref sig .tc := ⟨.hbm, 413, rfl⟩
abbrev main_call12_cst : Ref sig .tc := ⟨.hbm, 414, rfl⟩
abbrev main_call12_v15 : Ref sig .tc := ⟨.hbm, 415, rfl⟩
abbrev main_v201 : Ref sig .tc := ⟨.hbm, 416, rfl⟩
abbrev main_v202 : Ref sig .tc := ⟨.hbm, 417, rfl⟩
abbrev main_v203 : Ref sig .tc := ⟨.hbm, 418, rfl⟩
abbrev main_v204 : Ref sig .tc := ⟨.hbm, 419, rfl⟩
abbrev main_v205 : Ref sig .tc := ⟨.hbm, 420, rfl⟩
abbrev main_cst_61 : Ref sig .tc := ⟨.hbm, 421, rfl⟩
abbrev main_v206 : Ref sig .tc := ⟨.hbm, 422, rfl⟩
abbrev main_v207 : Ref sig .tc := ⟨.hbm, 423, rfl⟩
abbrev main_v208 : Ref sig .tc := ⟨.hbm, 424, rfl⟩
abbrev main_cst_62 : Ref sig .tc := ⟨.hbm, 425, rfl⟩
abbrev main_v209 : Ref sig .tc := ⟨.hbm, 426, rfl⟩
abbrev main_v210 : Ref sig .tc := ⟨.hbm, 427, rfl⟩
abbrev main_v211 : Ref sig .tc := ⟨.hbm, 428, rfl⟩
abbrev main_v212 : Ref sig .tc := ⟨.hbm, 429, rfl⟩
abbrev main_cst_63 : Ref sig .tc := ⟨.hbm, 430, rfl⟩
abbrev main_v213 : Ref sig .tc := ⟨.hbm, 431, rfl⟩
abbrev main_v214 : Ref sig .tc := ⟨.hbm, 432, rfl⟩
abbrev main_v215 : Ref sig .tc := ⟨.hbm, 433, rfl⟩
abbrev main_c_64 : Ref sig .tc := ⟨.hbm, 434, rfl⟩
abbrev main_v216 : Ref sig .tc := ⟨.hbm, 435, rfl⟩
abbrev main_v217 : Ref sig .tc := ⟨.hbm, 436, rfl⟩
abbrev main_v218 : Ref sig .tc := ⟨.hbm, 437, rfl⟩
abbrev main_c_65 : Ref sig .tc := ⟨.hbm, 438, rfl⟩
abbrev main_v219 : Ref sig .tc := ⟨.hbm, 439, rfl⟩
abbrev main_v220 : Ref sig .tc := ⟨.hbm, 440, rfl⟩
abbrev main_v221 : Ref sig .tc := ⟨.hbm, 441, rfl⟩
abbrev main_c_66 : Ref sig .tc := ⟨.hbm, 442, rfl⟩
abbrev main_v222 : Ref sig .tc := ⟨.hbm, 443, rfl⟩
abbrev main_v223 : Ref sig .tc := ⟨.hbm, 444, rfl⟩
abbrev main_v224 : Ref sig .tc := ⟨.hbm, 445, rfl⟩
abbrev main_call13_c : Ref sig .tc := ⟨.hbm, 446, rfl⟩
abbrev main_call13_v0 : Ref sig .tc := ⟨.hbm, 447, rfl⟩
abbrev main_call13_v1 : Ref sig .tc := ⟨.hbm, 448, rfl⟩
abbrev main_call13_c_0 : Ref sig .tc := ⟨.hbm, 449, rfl⟩
abbrev main_call13_v2 : Ref sig .tc := ⟨.hbm, 450, rfl⟩
abbrev main_call13_v3 : Ref sig .tc := ⟨.hbm, 451, rfl⟩
abbrev main_call13_v4 : Ref sig .tc := ⟨.hbm, 452, rfl⟩
abbrev main_call13_v5 : Ref sig .tc := ⟨.hbm, 453, rfl⟩
abbrev main_call13_c_1 : Ref sig .tc := ⟨.hbm, 454, rfl⟩
abbrev main_call13_c_2 : Ref sig .tc := ⟨.hbm, 455, rfl⟩
abbrev main_call13_v6 : Ref sig .tc := ⟨.hbm, 456, rfl⟩
abbrev main_call13_v7 : Ref sig .tc := ⟨.hbm, 457, rfl⟩
abbrev main_call13_v8 : Ref sig .tc := ⟨.hbm, 458, rfl⟩
abbrev main_call13_v9 : Ref sig .tc := ⟨.hbm, 459, rfl⟩
abbrev main_call13_v10 : Ref sig .tc := ⟨.hbm, 460, rfl⟩
abbrev main_call13_v11 : Ref sig .tc := ⟨.hbm, 461, rfl⟩
abbrev main_call13_c_3 : Ref sig .tc := ⟨.hbm, 462, rfl⟩
abbrev main_call13_v12 : Ref sig .tc := ⟨.hbm, 463, rfl⟩
abbrev main_call13_v13 : Ref sig .tc := ⟨.hbm, 464, rfl⟩
abbrev main_call13_v14 : Ref sig .tc := ⟨.hbm, 465, rfl⟩
abbrev main_call13_cst : Ref sig .tc := ⟨.hbm, 466, rfl⟩
abbrev main_call13_v15 : Ref sig .tc := ⟨.hbm, 467, rfl⟩
abbrev main_v225 : Ref sig .tc := ⟨.hbm, 468, rfl⟩
abbrev main_v226 : Ref sig .tc := ⟨.hbm, 469, rfl⟩
abbrev main_v227 : Ref sig .tc := ⟨.hbm, 470, rfl⟩
abbrev main_v228 : Ref sig .tc := ⟨.hbm, 471, rfl⟩
abbrev main_v229 : Ref sig .tc := ⟨.hbm, 472, rfl⟩
abbrev main_cst_67 : Ref sig .tc := ⟨.hbm, 473, rfl⟩
abbrev main_v230 : Ref sig .tc := ⟨.hbm, 474, rfl⟩
abbrev main_cst_68 : Ref sig .tc := ⟨.hbm, 475, rfl⟩
abbrev main_v231 : Ref sig .tc := ⟨.hbm, 476, rfl⟩
abbrev main_v232 : Ref sig .tc := ⟨.hbm, 477, rfl⟩
abbrev main_v233 : Ref sig .tc := ⟨.hbm, 478, rfl⟩
abbrev main_v234 : Ref sig .tc := ⟨.hbm, 479, rfl⟩
abbrev main_v235 : Ref sig .tc := ⟨.hbm, 480, rfl⟩
abbrev main_v236 : Ref sig .tc := ⟨.hbm, 481, rfl⟩
abbrev main_cst_69 : Ref sig .tc := ⟨.hbm, 482, rfl⟩
abbrev main_v237 : Ref sig .tc := ⟨.hbm, 483, rfl⟩
abbrev main_v238 : Ref sig .tc := ⟨.hbm, 484, rfl⟩
abbrev main_v239 : Ref sig .tc := ⟨.hbm, 485, rfl⟩
abbrev main_c_70 : Ref sig .tc := ⟨.hbm, 486, rfl⟩
abbrev main_v240 : Ref sig .tc := ⟨.hbm, 487, rfl⟩
abbrev main_v241 : Ref sig .tc := ⟨.hbm, 488, rfl⟩
abbrev main_v242 : Ref sig .tc := ⟨.hbm, 489, rfl⟩
abbrev main_c_71 : Ref sig .tc := ⟨.hbm, 490, rfl⟩
abbrev main_v243 : Ref sig .tc := ⟨.hbm, 491, rfl⟩
abbrev main_v244 : Ref sig .tc := ⟨.hbm, 492, rfl⟩
abbrev main_v245 : Ref sig .tc := ⟨.hbm, 493, rfl⟩
abbrev main_c_72 : Ref sig .tc := ⟨.hbm, 494, rfl⟩
abbrev main_v246 : Ref sig .tc := ⟨.hbm, 495, rfl⟩
abbrev main_v247 : Ref sig .tc := ⟨.hbm, 496, rfl⟩
abbrev main_v248 : Ref sig .tc := ⟨.hbm, 497, rfl⟩
abbrev main_call14_c : Ref sig .tc := ⟨.hbm, 498, rfl⟩
abbrev main_call14_v0 : Ref sig .tc := ⟨.hbm, 499, rfl⟩
abbrev main_call14_v1 : Ref sig .tc := ⟨.hbm, 500, rfl⟩
abbrev main_call14_c_0 : Ref sig .tc := ⟨.hbm, 501, rfl⟩
abbrev main_call14_v2 : Ref sig .tc := ⟨.hbm, 502, rfl⟩
abbrev main_call14_v3 : Ref sig .tc := ⟨.hbm, 503, rfl⟩
abbrev main_call14_v4 : Ref sig .tc := ⟨.hbm, 504, rfl⟩
abbrev main_call14_v5 : Ref sig .tc := ⟨.hbm, 505, rfl⟩
abbrev main_call14_c_1 : Ref sig .tc := ⟨.hbm, 506, rfl⟩
abbrev main_call14_c_2 : Ref sig .tc := ⟨.hbm, 507, rfl⟩
abbrev main_call14_v6 : Ref sig .tc := ⟨.hbm, 508, rfl⟩
abbrev main_call14_v7 : Ref sig .tc := ⟨.hbm, 509, rfl⟩
abbrev main_call14_v8 : Ref sig .tc := ⟨.hbm, 510, rfl⟩
abbrev main_call14_v9 : Ref sig .tc := ⟨.hbm, 511, rfl⟩
abbrev main_call14_v10 : Ref sig .tc := ⟨.hbm, 512, rfl⟩
abbrev main_call14_v11 : Ref sig .tc := ⟨.hbm, 513, rfl⟩
abbrev main_call14_c_3 : Ref sig .tc := ⟨.hbm, 514, rfl⟩
abbrev main_call14_v12 : Ref sig .tc := ⟨.hbm, 515, rfl⟩
abbrev main_call14_v13 : Ref sig .tc := ⟨.hbm, 516, rfl⟩
abbrev main_call14_v14 : Ref sig .tc := ⟨.hbm, 517, rfl⟩
abbrev main_call14_cst : Ref sig .tc := ⟨.hbm, 518, rfl⟩
abbrev main_call14_v15 : Ref sig .tc := ⟨.hbm, 519, rfl⟩
abbrev main_v249 : Ref sig .tc := ⟨.hbm, 520, rfl⟩
abbrev main_v250 : Ref sig .tc := ⟨.hbm, 521, rfl⟩
abbrev main_v251 : Ref sig .tc := ⟨.hbm, 522, rfl⟩
abbrev main_v252 : Ref sig .tc := ⟨.hbm, 523, rfl⟩
abbrev main_v253 : Ref sig .tc := ⟨.hbm, 524, rfl⟩
abbrev main_cst_73 : Ref sig .tc := ⟨.hbm, 525, rfl⟩
abbrev main_v254 : Ref sig .tc := ⟨.hbm, 526, rfl⟩
abbrev main_v255 : Ref sig .tc := ⟨.hbm, 527, rfl⟩
abbrev main_v256 : Ref sig .tc := ⟨.hbm, 528, rfl⟩
abbrev main_v257 : Ref sig .tc := ⟨.hbm, 529, rfl⟩
abbrev main_v258 : Ref sig .tc := ⟨.hbm, 530, rfl⟩
abbrev main_cst_74 : Ref sig .tc := ⟨.hbm, 531, rfl⟩
abbrev main_v259 : Ref sig .tc := ⟨.hbm, 532, rfl⟩
abbrev main_v260 : Ref sig .tc := ⟨.hbm, 533, rfl⟩
abbrev main_v261 : Ref sig .tc := ⟨.hbm, 534, rfl⟩
abbrev main_c_75 : Ref sig .tc := ⟨.hbm, 535, rfl⟩
abbrev main_v262 : Ref sig .tc := ⟨.hbm, 536, rfl⟩
abbrev main_v263 : Ref sig .tc := ⟨.hbm, 537, rfl⟩
abbrev main_v264 : Ref sig .tc := ⟨.hbm, 538, rfl⟩
abbrev main_c_76 : Ref sig .tc := ⟨.hbm, 539, rfl⟩
abbrev main_v265 : Ref sig .tc := ⟨.hbm, 540, rfl⟩
abbrev main_v266 : Ref sig .tc := ⟨.hbm, 541, rfl⟩
abbrev main_v267 : Ref sig .tc := ⟨.hbm, 542, rfl⟩
abbrev main_c_77 : Ref sig .tc := ⟨.hbm, 543, rfl⟩
abbrev main_v268 : Ref sig .tc := ⟨.hbm, 544, rfl⟩
abbrev main_v269 : Ref sig .tc := ⟨.hbm, 545, rfl⟩
abbrev main_v270 : Ref sig .tc := ⟨.hbm, 546, rfl⟩
abbrev main_call15_c : Ref sig .tc := ⟨.hbm, 547, rfl⟩
abbrev main_call15_v0 : Ref sig .tc := ⟨.hbm, 548, rfl⟩
abbrev main_call15_v1 : Ref sig .tc := ⟨.hbm, 549, rfl⟩
abbrev main_call15_c_0 : Ref sig .tc := ⟨.hbm, 550, rfl⟩
abbrev main_call15_v2 : Ref sig .tc := ⟨.hbm, 551, rfl⟩
abbrev main_call15_v3 : Ref sig .tc := ⟨.hbm, 552, rfl⟩
abbrev main_call15_v4 : Ref sig .tc := ⟨.hbm, 553, rfl⟩
abbrev main_call15_v5 : Ref sig .tc := ⟨.hbm, 554, rfl⟩
abbrev main_call15_c_1 : Ref sig .tc := ⟨.hbm, 555, rfl⟩
abbrev main_call15_c_2 : Ref sig .tc := ⟨.hbm, 556, rfl⟩
abbrev main_call15_v6 : Ref sig .tc := ⟨.hbm, 557, rfl⟩
abbrev main_call15_v7 : Ref sig .tc := ⟨.hbm, 558, rfl⟩
abbrev main_call15_v8 : Ref sig .tc := ⟨.hbm, 559, rfl⟩
abbrev main_call15_v9 : Ref sig .tc := ⟨.hbm, 560, rfl⟩
abbrev main_call15_v10 : Ref sig .tc := ⟨.hbm, 561, rfl⟩
abbrev main_call15_v11 : Ref sig .tc := ⟨.hbm, 562, rfl⟩
abbrev main_call15_c_3 : Ref sig .tc := ⟨.hbm, 563, rfl⟩
abbrev main_call15_v12 : Ref sig .tc := ⟨.hbm, 564, rfl⟩
abbrev main_call15_v13 : Ref sig .tc := ⟨.hbm, 565, rfl⟩
abbrev main_call15_v14 : Ref sig .tc := ⟨.hbm, 566, rfl⟩
abbrev main_call15_cst : Ref sig .tc := ⟨.hbm, 567, rfl⟩
abbrev main_call15_v15 : Ref sig .tc := ⟨.hbm, 568, rfl⟩
abbrev main_v271 : Ref sig .tc := ⟨.hbm, 569, rfl⟩
abbrev main_v272 : Ref sig .tc := ⟨.hbm, 570, rfl⟩
abbrev main_v273 : Ref sig .tc := ⟨.hbm, 571, rfl⟩
abbrev main_v274 : Ref sig .tc := ⟨.hbm, 572, rfl⟩
abbrev main_v275 : Ref sig .tc := ⟨.hbm, 573, rfl⟩
abbrev main_cst_78 : Ref sig .tc := ⟨.hbm, 574, rfl⟩
abbrev main_v276 : Ref sig .tc := ⟨.hbm, 575, rfl⟩
abbrev main_cst_79 : Ref sig .tc := ⟨.hbm, 576, rfl⟩
abbrev main_v277 : Ref sig .tc := ⟨.hbm, 577, rfl⟩
abbrev main_v278 : Ref sig .tc := ⟨.hbm, 578, rfl⟩
abbrev main_v279 : Ref sig .tc := ⟨.hbm, 579, rfl⟩
abbrev main_v280 : Ref sig .tc := ⟨.hbm, 580, rfl⟩
abbrev main_cst_80 : Ref sig .tc := ⟨.hbm, 581, rfl⟩
abbrev main_v281 : Ref sig .tc := ⟨.hbm, 582, rfl⟩
abbrev main_v282 : Ref sig .tc := ⟨.hbm, 583, rfl⟩
abbrev main_v283 : Ref sig .tc := ⟨.hbm, 584, rfl⟩
abbrev main_cst_81 : Ref sig .tc := ⟨.hbm, 585, rfl⟩
abbrev main_v284 : Ref sig .tc := ⟨.hbm, 586, rfl⟩
abbrev main_v285 : Ref sig .tc := ⟨.hbm, 587, rfl⟩
abbrev main_v286 : Ref sig .tc := ⟨.hbm, 588, rfl⟩
abbrev main_v287 : Ref sig .tc := ⟨.hbm, 589, rfl⟩
abbrev main_c_82 : Ref sig .tc := ⟨.hbm, 590, rfl⟩
abbrev main_v288 : Ref sig .tc := ⟨.hbm, 591, rfl⟩
abbrev main_v289 : Ref sig .tc := ⟨.hbm, 592, rfl⟩
abbrev main_v290 : Ref sig .tc := ⟨.hbm, 593, rfl⟩
abbrev main_c_83 : Ref sig .tc := ⟨.hbm, 594, rfl⟩
abbrev main_v291 : Ref sig .tc := ⟨.hbm, 595, rfl⟩
abbrev main_v292 : Ref sig .tc := ⟨.hbm, 596, rfl⟩
abbrev main_v293 : Ref sig .tc := ⟨.hbm, 597, rfl⟩
abbrev main_c_84 : Ref sig .tc := ⟨.hbm, 598, rfl⟩
abbrev main_v294 : Ref sig .tc := ⟨.hbm, 599, rfl⟩
abbrev main_v295 : Ref sig .tc := ⟨.hbm, 600, rfl⟩
abbrev main_v296 : Ref sig .tc := ⟨.hbm, 601, rfl⟩
abbrev main_call16_c : Ref sig .tc := ⟨.hbm, 602, rfl⟩
abbrev main_call16_v0 : Ref sig .tc := ⟨.hbm, 603, rfl⟩
abbrev main_call16_v1 : Ref sig .tc := ⟨.hbm, 604, rfl⟩
abbrev main_call16_c_0 : Ref sig .tc := ⟨.hbm, 605, rfl⟩
abbrev main_call16_v2 : Ref sig .tc := ⟨.hbm, 606, rfl⟩
abbrev main_call16_v3 : Ref sig .tc := ⟨.hbm, 607, rfl⟩
abbrev main_call16_v4 : Ref sig .tc := ⟨.hbm, 608, rfl⟩
abbrev main_call16_v5 : Ref sig .tc := ⟨.hbm, 609, rfl⟩
abbrev main_call16_c_1 : Ref sig .tc := ⟨.hbm, 610, rfl⟩
abbrev main_call16_c_2 : Ref sig .tc := ⟨.hbm, 611, rfl⟩
abbrev main_call16_v6 : Ref sig .tc := ⟨.hbm, 612, rfl⟩
abbrev main_call16_v7 : Ref sig .tc := ⟨.hbm, 613, rfl⟩
abbrev main_call16_v8 : Ref sig .tc := ⟨.hbm, 614, rfl⟩
abbrev main_call16_v9 : Ref sig .tc := ⟨.hbm, 615, rfl⟩
abbrev main_call16_v10 : Ref sig .tc := ⟨.hbm, 616, rfl⟩
abbrev main_call16_v11 : Ref sig .tc := ⟨.hbm, 617, rfl⟩
abbrev main_call16_c_3 : Ref sig .tc := ⟨.hbm, 618, rfl⟩
abbrev main_call16_v12 : Ref sig .tc := ⟨.hbm, 619, rfl⟩
abbrev main_call16_v13 : Ref sig .tc := ⟨.hbm, 620, rfl⟩
abbrev main_call16_v14 : Ref sig .tc := ⟨.hbm, 621, rfl⟩
abbrev main_call16_cst : Ref sig .tc := ⟨.hbm, 622, rfl⟩
abbrev main_call16_v15 : Ref sig .tc := ⟨.hbm, 623, rfl⟩
abbrev main_v297 : Ref sig .tc := ⟨.hbm, 624, rfl⟩
abbrev main_v298 : Ref sig .tc := ⟨.hbm, 625, rfl⟩
abbrev main_v299 : Ref sig .tc := ⟨.hbm, 626, rfl⟩
abbrev main_v300 : Ref sig .tc := ⟨.hbm, 627, rfl⟩
abbrev main_v301 : Ref sig .tc := ⟨.hbm, 628, rfl⟩
abbrev main_cst_85 : Ref sig .tc := ⟨.hbm, 629, rfl⟩
abbrev main_v302 : Ref sig .tc := ⟨.hbm, 630, rfl⟩
abbrev main_v303 : Ref sig .tc := ⟨.hbm, 631, rfl⟩
abbrev main_v304 : Ref sig .tc := ⟨.hbm, 632, rfl⟩
abbrev main_cst_86 : Ref sig .tc := ⟨.hbm, 633, rfl⟩
abbrev main_v305 : Ref sig .tc := ⟨.hbm, 634, rfl⟩
abbrev main_v306 : Ref sig .tc := ⟨.hbm, 635, rfl⟩
abbrev main_v307 : Ref sig .tc := ⟨.hbm, 636, rfl⟩
abbrev main_cst_87 : Ref sig .tc := ⟨.hbm, 637, rfl⟩
abbrev main_v308 : Ref sig .tc := ⟨.hbm, 638, rfl⟩
abbrev main_v309 : Ref sig .tc := ⟨.hbm, 639, rfl⟩
abbrev main_v310 : Ref sig .tc := ⟨.hbm, 640, rfl⟩
abbrev main_v311 : Ref sig .tc := ⟨.hbm, 641, rfl⟩
abbrev main_c_88 : Ref sig .tc := ⟨.hbm, 642, rfl⟩
abbrev main_v312 : Ref sig .tc := ⟨.hbm, 643, rfl⟩
abbrev main_v313 : Ref sig .tc := ⟨.hbm, 644, rfl⟩
abbrev main_v314 : Ref sig .tc := ⟨.hbm, 645, rfl⟩
abbrev main_c_89 : Ref sig .tc := ⟨.hbm, 646, rfl⟩
abbrev main_v315 : Ref sig .tc := ⟨.hbm, 647, rfl⟩
abbrev main_v316 : Ref sig .tc := ⟨.hbm, 648, rfl⟩
abbrev main_v317 : Ref sig .tc := ⟨.hbm, 649, rfl⟩
abbrev main_c_90 : Ref sig .tc := ⟨.hbm, 650, rfl⟩
abbrev main_v318 : Ref sig .tc := ⟨.hbm, 651, rfl⟩
abbrev main_v319 : Ref sig .tc := ⟨.hbm, 652, rfl⟩
abbrev main_v320 : Ref sig .tc := ⟨.hbm, 653, rfl⟩
abbrev main_call17_c : Ref sig .tc := ⟨.hbm, 654, rfl⟩
abbrev main_call17_v0 : Ref sig .tc := ⟨.hbm, 655, rfl⟩
abbrev main_call17_v1 : Ref sig .tc := ⟨.hbm, 656, rfl⟩
abbrev main_call17_c_0 : Ref sig .tc := ⟨.hbm, 657, rfl⟩
abbrev main_call17_v2 : Ref sig .tc := ⟨.hbm, 658, rfl⟩
abbrev main_call17_v3 : Ref sig .tc := ⟨.hbm, 659, rfl⟩
abbrev main_call17_v4 : Ref sig .tc := ⟨.hbm, 660, rfl⟩
abbrev main_call17_v5 : Ref sig .tc := ⟨.hbm, 661, rfl⟩
abbrev main_call17_c_1 : Ref sig .tc := ⟨.hbm, 662, rfl⟩
abbrev main_call17_c_2 : Ref sig .tc := ⟨.hbm, 663, rfl⟩
abbrev main_call17_v6 : Ref sig .tc := ⟨.hbm, 664, rfl⟩
abbrev main_call17_v7 : Ref sig .tc := ⟨.hbm, 665, rfl⟩
abbrev main_call17_v8 : Ref sig .tc := ⟨.hbm, 666, rfl⟩
abbrev main_call17_v9 : Ref sig .tc := ⟨.hbm, 667, rfl⟩
abbrev main_call17_v10 : Ref sig .tc := ⟨.hbm, 668, rfl⟩
abbrev main_call17_v11 : Ref sig .tc := ⟨.hbm, 669, rfl⟩
abbrev main_call17_c_3 : Ref sig .tc := ⟨.hbm, 670, rfl⟩
abbrev main_call17_v12 : Ref sig .tc := ⟨.hbm, 671, rfl⟩
abbrev main_call17_v13 : Ref sig .tc := ⟨.hbm, 672, rfl⟩
abbrev main_call17_v14 : Ref sig .tc := ⟨.hbm, 673, rfl⟩
abbrev main_call17_cst : Ref sig .tc := ⟨.hbm, 674, rfl⟩
abbrev main_call17_v15 : Ref sig .tc := ⟨.hbm, 675, rfl⟩
abbrev main_v321 : Ref sig .tc := ⟨.hbm, 676, rfl⟩
abbrev main_v322 : Ref sig .tc := ⟨.hbm, 677, rfl⟩
abbrev main_v323 : Ref sig .tc := ⟨.hbm, 678, rfl⟩
abbrev main_v324 : Ref sig .tc := ⟨.hbm, 679, rfl⟩
abbrev main_v325 : Ref sig .tc := ⟨.hbm, 680, rfl⟩
abbrev main_cst_91 : Ref sig .tc := ⟨.hbm, 681, rfl⟩
abbrev main_v326 : Ref sig .tc := ⟨.hbm, 682, rfl⟩
abbrev main_cst_92 : Ref sig .tc := ⟨.hbm, 683, rfl⟩
abbrev main_v327 : Ref sig .tc := ⟨.hbm, 684, rfl⟩
abbrev main_v328 : Ref sig .tc := ⟨.hbm, 685, rfl⟩
abbrev main_v329 : Ref sig .tc := ⟨.hbm, 686, rfl⟩
abbrev main_v330 : Ref sig .tc := ⟨.hbm, 687, rfl⟩
abbrev main_v331 : Ref sig .tc := ⟨.hbm, 688, rfl⟩
abbrev main_cst_93 : Ref sig .tc := ⟨.hbm, 689, rfl⟩
abbrev main_v332 : Ref sig .tc := ⟨.hbm, 690, rfl⟩
abbrev main_v333 : Ref sig .tc := ⟨.hbm, 691, rfl⟩
abbrev main_v334 : Ref sig .tc := ⟨.hbm, 692, rfl⟩
abbrev main_v335 : Ref sig .tc := ⟨.hbm, 693, rfl⟩
abbrev main_c_94 : Ref sig .tc := ⟨.hbm, 694, rfl⟩
abbrev main_v336 : Ref sig .tc := ⟨.hbm, 695, rfl⟩
abbrev main_v337 : Ref sig .tc := ⟨.hbm, 696, rfl⟩
abbrev main_v338 : Ref sig .tc := ⟨.hbm, 697, rfl⟩
abbrev main_c_95 : Ref sig .tc := ⟨.hbm, 698, rfl⟩
abbrev main_v339 : Ref sig .tc := ⟨.hbm, 699, rfl⟩
abbrev main_v340 : Ref sig .tc := ⟨.hbm, 700, rfl⟩
abbrev main_v341 : Ref sig .tc := ⟨.hbm, 701, rfl⟩
abbrev main_c_96 : Ref sig .tc := ⟨.hbm, 702, rfl⟩
abbrev main_v342 : Ref sig .tc := ⟨.hbm, 703, rfl⟩
abbrev main_v343 : Ref sig .tc := ⟨.hbm, 704, rfl⟩
abbrev main_v344 : Ref sig .tc := ⟨.hbm, 705, rfl⟩
abbrev main_call18_c : Ref sig .tc := ⟨.hbm, 706, rfl⟩
abbrev main_call18_v0 : Ref sig .tc := ⟨.hbm, 707, rfl⟩
abbrev main_call18_v1 : Ref sig .tc := ⟨.hbm, 708, rfl⟩
abbrev main_call18_c_0 : Ref sig .tc := ⟨.hbm, 709, rfl⟩
abbrev main_call18_v2 : Ref sig .tc := ⟨.hbm, 710, rfl⟩
abbrev main_call18_v3 : Ref sig .tc := ⟨.hbm, 711, rfl⟩
abbrev main_call18_v4 : Ref sig .tc := ⟨.hbm, 712, rfl⟩
abbrev main_call18_v5 : Ref sig .tc := ⟨.hbm, 713, rfl⟩
abbrev main_call18_c_1 : Ref sig .tc := ⟨.hbm, 714, rfl⟩
abbrev main_call18_c_2 : Ref sig .tc := ⟨.hbm, 715, rfl⟩
abbrev main_call18_v6 : Ref sig .tc := ⟨.hbm, 716, rfl⟩
abbrev main_call18_v7 : Ref sig .tc := ⟨.hbm, 717, rfl⟩
abbrev main_call18_v8 : Ref sig .tc := ⟨.hbm, 718, rfl⟩
abbrev main_call18_v9 : Ref sig .tc := ⟨.hbm, 719, rfl⟩
abbrev main_call18_v10 : Ref sig .tc := ⟨.hbm, 720, rfl⟩
abbrev main_call18_v11 : Ref sig .tc := ⟨.hbm, 721, rfl⟩
abbrev main_call18_c_3 : Ref sig .tc := ⟨.hbm, 722, rfl⟩
abbrev main_call18_v12 : Ref sig .tc := ⟨.hbm, 723, rfl⟩
abbrev main_call18_v13 : Ref sig .tc := ⟨.hbm, 724, rfl⟩
abbrev main_call18_v14 : Ref sig .tc := ⟨.hbm, 725, rfl⟩
abbrev main_call18_cst : Ref sig .tc := ⟨.hbm, 726, rfl⟩
abbrev main_call18_v15 : Ref sig .tc := ⟨.hbm, 727, rfl⟩
abbrev main_v345 : Ref sig .tc := ⟨.hbm, 728, rfl⟩
abbrev main_v346 : Ref sig .tc := ⟨.hbm, 729, rfl⟩
abbrev main_v347 : Ref sig .tc := ⟨.hbm, 730, rfl⟩
abbrev main_v348 : Ref sig .tc := ⟨.hbm, 731, rfl⟩
abbrev main_v349 : Ref sig .tc := ⟨.hbm, 732, rfl⟩
abbrev main_cst_97 : Ref sig .tc := ⟨.hbm, 733, rfl⟩
abbrev main_v350 : Ref sig .tc := ⟨.hbm, 734, rfl⟩
abbrev main_v351 : Ref sig .tc := ⟨.hbm, 735, rfl⟩
abbrev main_v352 : Ref sig .tc := ⟨.hbm, 736, rfl⟩
abbrev main_v353 : Ref sig .tc := ⟨.hbm, 737, rfl⟩
abbrev main_cst_98 : Ref sig .tc := ⟨.hbm, 738, rfl⟩
abbrev main_v354 : Ref sig .tc := ⟨.hbm, 739, rfl⟩
abbrev main_v355 : Ref sig .tc := ⟨.hbm, 740, rfl⟩
abbrev main_v356 : Ref sig .tc := ⟨.hbm, 741, rfl⟩
abbrev main_v357 : Ref sig .tc := ⟨.hbm, 742, rfl⟩
abbrev main_c_99 : Ref sig .tc := ⟨.hbm, 743, rfl⟩
abbrev main_v358 : Ref sig .tc := ⟨.hbm, 744, rfl⟩
abbrev main_v359 : Ref sig .tc := ⟨.hbm, 745, rfl⟩
abbrev main_v360 : Ref sig .tc := ⟨.hbm, 746, rfl⟩
abbrev main_c_100 : Ref sig .tc := ⟨.hbm, 747, rfl⟩
abbrev main_v361 : Ref sig .tc := ⟨.hbm, 748, rfl⟩
abbrev main_v362 : Ref sig .tc := ⟨.hbm, 749, rfl⟩
abbrev main_v363 : Ref sig .tc := ⟨.hbm, 750, rfl⟩
abbrev main_c_101 : Ref sig .tc := ⟨.hbm, 751, rfl⟩
abbrev main_v364 : Ref sig .tc := ⟨.hbm, 752, rfl⟩
abbrev main_v365 : Ref sig .tc := ⟨.hbm, 753, rfl⟩
abbrev main_v366 : Ref sig .tc := ⟨.hbm, 754, rfl⟩
abbrev main_call19_c : Ref sig .tc := ⟨.hbm, 755, rfl⟩
abbrev main_call19_v0 : Ref sig .tc := ⟨.hbm, 756, rfl⟩
abbrev main_call19_v1 : Ref sig .tc := ⟨.hbm, 757, rfl⟩
abbrev main_call19_c_0 : Ref sig .tc := ⟨.hbm, 758, rfl⟩
abbrev main_call19_v2 : Ref sig .tc := ⟨.hbm, 759, rfl⟩
abbrev main_call19_v3 : Ref sig .tc := ⟨.hbm, 760, rfl⟩
abbrev main_call19_v4 : Ref sig .tc := ⟨.hbm, 761, rfl⟩
abbrev main_call19_v5 : Ref sig .tc := ⟨.hbm, 762, rfl⟩
abbrev main_call19_c_1 : Ref sig .tc := ⟨.hbm, 763, rfl⟩
abbrev main_call19_c_2 : Ref sig .tc := ⟨.hbm, 764, rfl⟩
abbrev main_call19_v6 : Ref sig .tc := ⟨.hbm, 765, rfl⟩
abbrev main_call19_v7 : Ref sig .tc := ⟨.hbm, 766, rfl⟩
abbrev main_call19_v8 : Ref sig .tc := ⟨.hbm, 767, rfl⟩
abbrev main_call19_v9 : Ref sig .tc := ⟨.hbm, 768, rfl⟩
abbrev main_call19_v10 : Ref sig .tc := ⟨.hbm, 769, rfl⟩
abbrev main_call19_v11 : Ref sig .tc := ⟨.hbm, 770, rfl⟩
abbrev main_call19_c_3 : Ref sig .tc := ⟨.hbm, 771, rfl⟩
abbrev main_call19_v12 : Ref sig .tc := ⟨.hbm, 772, rfl⟩
abbrev main_call19_v13 : Ref sig .tc := ⟨.hbm, 773, rfl⟩
abbrev main_call19_v14 : Ref sig .tc := ⟨.hbm, 774, rfl⟩
abbrev main_call19_cst : Ref sig .tc := ⟨.hbm, 775, rfl⟩
abbrev main_call19_v15 : Ref sig .tc := ⟨.hbm, 776, rfl⟩
abbrev main_v367 : Ref sig .tc := ⟨.hbm, 777, rfl⟩
abbrev main_v368 : Ref sig .tc := ⟨.hbm, 778, rfl⟩
abbrev main_v369 : Ref sig .tc := ⟨.hbm, 779, rfl⟩
abbrev main_v370 : Ref sig .tc := ⟨.hbm, 780, rfl⟩
abbrev main_v371 : Ref sig .tc := ⟨.hbm, 781, rfl⟩
abbrev main_cst_102 : Ref sig .tc := ⟨.hbm, 782, rfl⟩
abbrev main_v372 : Ref sig .tc := ⟨.hbm, 783, rfl⟩
abbrev main_cst_103 : Ref sig .tc := ⟨.hbm, 784, rfl⟩
abbrev main_v373 : Ref sig .tc := ⟨.hbm, 785, rfl⟩
abbrev main_v374 : Ref sig .tc := ⟨.hbm, 786, rfl⟩
abbrev main_v375 : Ref sig .tc := ⟨.hbm, 787, rfl⟩
abbrev main_v376 : Ref sig .tc := ⟨.hbm, 788, rfl⟩
abbrev main_cst_104 : Ref sig .tc := ⟨.hbm, 789, rfl⟩
abbrev main_v377 : Ref sig .tc := ⟨.hbm, 790, rfl⟩
abbrev main_v378 : Ref sig .tc := ⟨.hbm, 791, rfl⟩
abbrev main_v379 : Ref sig .tc := ⟨.hbm, 792, rfl⟩
abbrev main_v380 : Ref sig .tc := ⟨.hbm, 793, rfl⟩
abbrev main_v381 : Ref sig .tc := ⟨.hbm, 794, rfl⟩
abbrev main_c_105 : Ref sig .tc := ⟨.hbm, 795, rfl⟩
abbrev main_v382 : Ref sig .tc := ⟨.hbm, 796, rfl⟩
abbrev main_v383 : Ref sig .tc := ⟨.hbm, 797, rfl⟩
abbrev main_v384 : Ref sig .tc := ⟨.hbm, 798, rfl⟩
abbrev main_c_106 : Ref sig .tc := ⟨.hbm, 799, rfl⟩
abbrev main_v385 : Ref sig .tc := ⟨.hbm, 800, rfl⟩
abbrev main_v386 : Ref sig .tc := ⟨.hbm, 801, rfl⟩
abbrev main_v387 : Ref sig .tc := ⟨.hbm, 802, rfl⟩
abbrev main_c_107 : Ref sig .tc := ⟨.hbm, 803, rfl⟩
abbrev main_v388 : Ref sig .tc := ⟨.hbm, 804, rfl⟩
abbrev main_v389 : Ref sig .tc := ⟨.hbm, 805, rfl⟩
abbrev main_v390 : Ref sig .tc := ⟨.hbm, 806, rfl⟩
abbrev main_call20_c : Ref sig .tc := ⟨.hbm, 807, rfl⟩
abbrev main_call20_v0 : Ref sig .tc := ⟨.hbm, 808, rfl⟩
abbrev main_call20_v1 : Ref sig .tc := ⟨.hbm, 809, rfl⟩
abbrev main_call20_c_0 : Ref sig .tc := ⟨.hbm, 810, rfl⟩
abbrev main_call20_v2 : Ref sig .tc := ⟨.hbm, 811, rfl⟩
abbrev main_call20_v3 : Ref sig .tc := ⟨.hbm, 812, rfl⟩
abbrev main_call20_v4 : Ref sig .tc := ⟨.hbm, 813, rfl⟩
abbrev main_call20_v5 : Ref sig .tc := ⟨.hbm, 814, rfl⟩
abbrev main_call20_c_1 : Ref sig .tc := ⟨.hbm, 815, rfl⟩
abbrev main_call20_c_2 : Ref sig .tc := ⟨.hbm, 816, rfl⟩
abbrev main_call20_v6 : Ref sig .tc := ⟨.hbm, 817, rfl⟩
abbrev main_call20_v7 : Ref sig .tc := ⟨.hbm, 818, rfl⟩
abbrev main_call20_v8 : Ref sig .tc := ⟨.hbm, 819, rfl⟩
abbrev main_call20_v9 : Ref sig .tc := ⟨.hbm, 820, rfl⟩
abbrev main_call20_v10 : Ref sig .tc := ⟨.hbm, 821, rfl⟩
abbrev main_call20_v11 : Ref sig .tc := ⟨.hbm, 822, rfl⟩
abbrev main_call20_c_3 : Ref sig .tc := ⟨.hbm, 823, rfl⟩
abbrev main_call20_v12 : Ref sig .tc := ⟨.hbm, 824, rfl⟩
abbrev main_call20_v13 : Ref sig .tc := ⟨.hbm, 825, rfl⟩
abbrev main_call20_v14 : Ref sig .tc := ⟨.hbm, 826, rfl⟩
abbrev main_call20_cst : Ref sig .tc := ⟨.hbm, 827, rfl⟩
abbrev main_call20_v15 : Ref sig .tc := ⟨.hbm, 828, rfl⟩
abbrev main_v391 : Ref sig .tc := ⟨.hbm, 829, rfl⟩
abbrev main_v392 : Ref sig .tc := ⟨.hbm, 830, rfl⟩
abbrev main_v393 : Ref sig .tc := ⟨.hbm, 831, rfl⟩
abbrev main_v394 : Ref sig .tc := ⟨.hbm, 832, rfl⟩
abbrev main_v395 : Ref sig .tc := ⟨.hbm, 833, rfl⟩
abbrev main_cst_108 : Ref sig .tc := ⟨.hbm, 834, rfl⟩
abbrev main_v396 : Ref sig .tc := ⟨.hbm, 835, rfl⟩
abbrev main_v397 : Ref sig .tc := ⟨.hbm, 836, rfl⟩
abbrev main_v398 : Ref sig .tc := ⟨.hbm, 837, rfl⟩
abbrev main_cst_109 : Ref sig .tc := ⟨.hbm, 838, rfl⟩
abbrev main_v399 : Ref sig .tc := ⟨.hbm, 839, rfl⟩
abbrev main_v400 : Ref sig .tc := ⟨.hbm, 840, rfl⟩
abbrev main_v401 : Ref sig .tc := ⟨.hbm, 841, rfl⟩
abbrev main_v402 : Ref sig .tc := ⟨.hbm, 842, rfl⟩
abbrev main_v403 : Ref sig .tc := ⟨.hbm, 843, rfl⟩
abbrev main_c_110 : Ref sig .tc := ⟨.hbm, 844, rfl⟩
abbrev main_v404 : Ref sig .tc := ⟨.hbm, 845, rfl⟩
abbrev main_v405 : Ref sig .tc := ⟨.hbm, 846, rfl⟩
abbrev main_v406 : Ref sig .tc := ⟨.hbm, 847, rfl⟩
abbrev main_c_111 : Ref sig .tc := ⟨.hbm, 848, rfl⟩
abbrev main_v407 : Ref sig .tc := ⟨.hbm, 849, rfl⟩
abbrev main_v408 : Ref sig .tc := ⟨.hbm, 850, rfl⟩
abbrev main_v409 : Ref sig .tc := ⟨.hbm, 851, rfl⟩
abbrev main_c_112 : Ref sig .tc := ⟨.hbm, 852, rfl⟩
abbrev main_v410 : Ref sig .tc := ⟨.hbm, 853, rfl⟩
abbrev main_v411 : Ref sig .tc := ⟨.hbm, 854, rfl⟩
abbrev main_v412 : Ref sig .tc := ⟨.hbm, 855, rfl⟩
abbrev main_call21_c : Ref sig .tc := ⟨.hbm, 856, rfl⟩
abbrev main_call21_v0 : Ref sig .tc := ⟨.hbm, 857, rfl⟩
abbrev main_call21_v1 : Ref sig .tc := ⟨.hbm, 858, rfl⟩
abbrev main_call21_c_0 : Ref sig .tc := ⟨.hbm, 859, rfl⟩
abbrev main_call21_v2 : Ref sig .tc := ⟨.hbm, 860, rfl⟩
abbrev main_call21_v3 : Ref sig .tc := ⟨.hbm, 861, rfl⟩
abbrev main_call21_v4 : Ref sig .tc := ⟨.hbm, 862, rfl⟩
abbrev main_call21_v5 : Ref sig .tc := ⟨.hbm, 863, rfl⟩
abbrev main_call21_c_1 : Ref sig .tc := ⟨.hbm, 864, rfl⟩
abbrev main_call21_c_2 : Ref sig .tc := ⟨.hbm, 865, rfl⟩
abbrev main_call21_v6 : Ref sig .tc := ⟨.hbm, 866, rfl⟩
abbrev main_call21_v7 : Ref sig .tc := ⟨.hbm, 867, rfl⟩
abbrev main_call21_v8 : Ref sig .tc := ⟨.hbm, 868, rfl⟩
abbrev main_call21_v9 : Ref sig .tc := ⟨.hbm, 869, rfl⟩
abbrev main_call21_v10 : Ref sig .tc := ⟨.hbm, 870, rfl⟩
abbrev main_call21_v11 : Ref sig .tc := ⟨.hbm, 871, rfl⟩
abbrev main_call21_c_3 : Ref sig .tc := ⟨.hbm, 872, rfl⟩
abbrev main_call21_v12 : Ref sig .tc := ⟨.hbm, 873, rfl⟩
abbrev main_call21_v13 : Ref sig .tc := ⟨.hbm, 874, rfl⟩
abbrev main_call21_v14 : Ref sig .tc := ⟨.hbm, 875, rfl⟩
abbrev main_call21_cst : Ref sig .tc := ⟨.hbm, 876, rfl⟩
abbrev main_call21_v15 : Ref sig .tc := ⟨.hbm, 877, rfl⟩
abbrev main_v413 : Ref sig .tc := ⟨.hbm, 878, rfl⟩
abbrev main_v414 : Ref sig .tc := ⟨.hbm, 879, rfl⟩
abbrev main_v415 : Ref sig .tc := ⟨.hbm, 880, rfl⟩
abbrev main_v416 : Ref sig .tc := ⟨.hbm, 881, rfl⟩
abbrev main_v417 : Ref sig .tc := ⟨.hbm, 882, rfl⟩
abbrev main_cst_113 : Ref sig .tc := ⟨.hbm, 883, rfl⟩
abbrev main_v418 : Ref sig .tc := ⟨.hbm, 884, rfl⟩
abbrev main_cst_114 : Ref sig .tc := ⟨.hbm, 885, rfl⟩
abbrev main_v419 : Ref sig .tc := ⟨.hbm, 886, rfl⟩
abbrev main_v420 : Ref sig .tc := ⟨.hbm, 887, rfl⟩
abbrev main_v421 : Ref sig .tc := ⟨.hbm, 888, rfl⟩
abbrev main_v422 : Ref sig .tc := ⟨.hbm, 889, rfl⟩
abbrev main_v423 : Ref sig .tc := ⟨.hbm, 890, rfl⟩
abbrev main_v424 : Ref sig .tc := ⟨.hbm, 891, rfl⟩
abbrev main_v425 : Ref sig .tc := ⟨.hbm, 892, rfl⟩
abbrev main_c_115 : Ref sig .tc := ⟨.hbm, 893, rfl⟩
abbrev main_v426 : Ref sig .tc := ⟨.hbm, 894, rfl⟩
abbrev main_v427 : Ref sig .tc := ⟨.hbm, 895, rfl⟩
abbrev main_v428 : Ref sig .tc := ⟨.hbm, 896, rfl⟩
abbrev main_c_116 : Ref sig .tc := ⟨.hbm, 897, rfl⟩
abbrev main_v429 : Ref sig .tc := ⟨.hbm, 898, rfl⟩
abbrev main_v430 : Ref sig .tc := ⟨.hbm, 899, rfl⟩
abbrev main_v431 : Ref sig .tc := ⟨.hbm, 900, rfl⟩
abbrev main_c_117 : Ref sig .tc := ⟨.hbm, 901, rfl⟩
abbrev main_v432 : Ref sig .tc := ⟨.hbm, 902, rfl⟩
abbrev main_v433 : Ref sig .tc := ⟨.hbm, 903, rfl⟩
abbrev main_v434 : Ref sig .tc := ⟨.hbm, 904, rfl⟩
abbrev main_call22_c : Ref sig .tc := ⟨.hbm, 905, rfl⟩
abbrev main_call22_v0 : Ref sig .tc := ⟨.hbm, 906, rfl⟩
abbrev main_call22_v1 : Ref sig .tc := ⟨.hbm, 907, rfl⟩
abbrev main_call22_c_0 : Ref sig .tc := ⟨.hbm, 908, rfl⟩
abbrev main_call22_v2 : Ref sig .tc := ⟨.hbm, 909, rfl⟩
abbrev main_call22_v3 : Ref sig .tc := ⟨.hbm, 910, rfl⟩
abbrev main_call22_v4 : Ref sig .tc := ⟨.hbm, 911, rfl⟩
abbrev main_call22_v5 : Ref sig .tc := ⟨.hbm, 912, rfl⟩
abbrev main_call22_c_1 : Ref sig .tc := ⟨.hbm, 913, rfl⟩
abbrev main_call22_c_2 : Ref sig .tc := ⟨.hbm, 914, rfl⟩
abbrev main_call22_v6 : Ref sig .tc := ⟨.hbm, 915, rfl⟩
abbrev main_call22_v7 : Ref sig .tc := ⟨.hbm, 916, rfl⟩
abbrev main_call22_v8 : Ref sig .tc := ⟨.hbm, 917, rfl⟩
abbrev main_call22_v9 : Ref sig .tc := ⟨.hbm, 918, rfl⟩
abbrev main_call22_v10 : Ref sig .tc := ⟨.hbm, 919, rfl⟩
abbrev main_call22_v11 : Ref sig .tc := ⟨.hbm, 920, rfl⟩
abbrev main_call22_c_3 : Ref sig .tc := ⟨.hbm, 921, rfl⟩
abbrev main_call22_v12 : Ref sig .tc := ⟨.hbm, 922, rfl⟩
abbrev main_call22_v13 : Ref sig .tc := ⟨.hbm, 923, rfl⟩
abbrev main_call22_v14 : Ref sig .tc := ⟨.hbm, 924, rfl⟩
abbrev main_call22_cst : Ref sig .tc := ⟨.hbm, 925, rfl⟩
abbrev main_call22_v15 : Ref sig .tc := ⟨.hbm, 926, rfl⟩
abbrev main_v435 : Ref sig .tc := ⟨.hbm, 927, rfl⟩
abbrev main_v436 : Ref sig .tc := ⟨.hbm, 928, rfl⟩
abbrev main_v437 : Ref sig .tc := ⟨.hbm, 929, rfl⟩
abbrev main_v438 : Ref sig .tc := ⟨.hbm, 930, rfl⟩
abbrev main_v439 : Ref sig .tc := ⟨.hbm, 931, rfl⟩
abbrev main_cst_118 : Ref sig .tc := ⟨.hbm, 932, rfl⟩
abbrev main_v440 : Ref sig .tc := ⟨.hbm, 933, rfl⟩
abbrev main_v441 : Ref sig .tc := ⟨.hbm, 934, rfl⟩
abbrev main_v442 : Ref sig .tc := ⟨.hbm, 935, rfl⟩
abbrev main_v443 : Ref sig .tc := ⟨.hbm, 936, rfl⟩
abbrev main_v444 : Ref sig .tc := ⟨.hbm, 937, rfl⟩
abbrev main_v445 : Ref sig .tc := ⟨.hbm, 938, rfl⟩
abbrev main_c_119 : Ref sig .tc := ⟨.hbm, 939, rfl⟩
abbrev main_v446 : Ref sig .tc := ⟨.hbm, 940, rfl⟩
abbrev main_v447 : Ref sig .tc := ⟨.hbm, 941, rfl⟩
abbrev main_v448 : Ref sig .tc := ⟨.hbm, 942, rfl⟩
abbrev main_c_120 : Ref sig .tc := ⟨.hbm, 943, rfl⟩
abbrev main_v449 : Ref sig .tc := ⟨.hbm, 944, rfl⟩
abbrev main_v450 : Ref sig .tc := ⟨.hbm, 945, rfl⟩
abbrev main_v451 : Ref sig .tc := ⟨.hbm, 946, rfl⟩
abbrev main_c_121 : Ref sig .tc := ⟨.hbm, 947, rfl⟩
abbrev main_v452 : Ref sig .tc := ⟨.hbm, 948, rfl⟩
abbrev main_v453 : Ref sig .tc := ⟨.hbm, 949, rfl⟩
abbrev main_v454 : Ref sig .tc := ⟨.hbm, 950, rfl⟩
abbrev main_call23_c : Ref sig .tc := ⟨.hbm, 951, rfl⟩
abbrev main_call23_v0 : Ref sig .tc := ⟨.hbm, 952, rfl⟩
abbrev main_call23_v1 : Ref sig .tc := ⟨.hbm, 953, rfl⟩
abbrev main_call23_c_0 : Ref sig .tc := ⟨.hbm, 954, rfl⟩
abbrev main_call23_v2 : Ref sig .tc := ⟨.hbm, 955, rfl⟩
abbrev main_call23_v3 : Ref sig .tc := ⟨.hbm, 956, rfl⟩
abbrev main_call23_v4 : Ref sig .tc := ⟨.hbm, 957, rfl⟩
abbrev main_call23_v5 : Ref sig .tc := ⟨.hbm, 958, rfl⟩
abbrev main_call23_c_1 : Ref sig .tc := ⟨.hbm, 959, rfl⟩
abbrev main_call23_c_2 : Ref sig .tc := ⟨.hbm, 960, rfl⟩
abbrev main_call23_v6 : Ref sig .tc := ⟨.hbm, 961, rfl⟩
abbrev main_call23_v7 : Ref sig .tc := ⟨.hbm, 962, rfl⟩
abbrev main_call23_v8 : Ref sig .tc := ⟨.hbm, 963, rfl⟩
abbrev main_call23_v9 : Ref sig .tc := ⟨.hbm, 964, rfl⟩
abbrev main_call23_v10 : Ref sig .tc := ⟨.hbm, 965, rfl⟩
abbrev main_call23_v11 : Ref sig .tc := ⟨.hbm, 966, rfl⟩
abbrev main_call23_c_3 : Ref sig .tc := ⟨.hbm, 967, rfl⟩
abbrev main_call23_v12 : Ref sig .tc := ⟨.hbm, 968, rfl⟩
abbrev main_call23_v13 : Ref sig .tc := ⟨.hbm, 969, rfl⟩
abbrev main_call23_v14 : Ref sig .tc := ⟨.hbm, 970, rfl⟩
abbrev main_call23_cst : Ref sig .tc := ⟨.hbm, 971, rfl⟩
abbrev main_call23_v15 : Ref sig .tc := ⟨.hbm, 972, rfl⟩
abbrev main_v455 : Ref sig .tc := ⟨.hbm, 973, rfl⟩
abbrev main_v456 : Ref sig .tc := ⟨.hbm, 974, rfl⟩
abbrev main_v457 : Ref sig .tc := ⟨.hbm, 975, rfl⟩
abbrev main_v458 : Ref sig .tc := ⟨.hbm, 976, rfl⟩
abbrev main_v459 : Ref sig .tc := ⟨.hbm, 977, rfl⟩
abbrev main_v460 : Ref sig .tc := ⟨.hbm, 978, rfl⟩

abbrev nD : Nat := 1
abbrev τ : Topo := Topo.v7x

variable {F : FTy → Type} [FloatOps F]
-- ==== Proof.KernelBlock.lean ====
/-
  One block of the kernel, read at an index.

  The kernel spreads each position over the eight lanes of its voxel by a matrix of zeros and ones, weights every
  sample by the hat function of its lane, and adds each voxel's eight lanes up by a second matrix of zeros and ones.
  Read at an index the whole payload is the sum of eight samples times their hat weights.
-/
module

public import proofs.«01_k».proof.Proof.Gen.KernelIdeal.Frame
public import Idealize.ShloMosaic.Lib.Pointwise
public import Idealize.ShloMosaic.PureOps.Ideal

@[expose] public section

set_option maxRecDepth 16384

noncomputable section

namespace Cert.KernelIdeal.Block

open Cert.KernelIdeal Cert.KernelIdeal.Gen Idealize.ShloMosaic Idealize.SL.Sem
open scoped BigOperators

/-! ## Words and the floats made of them -/

/-- The word the kernel computes for the lane number `w` divided by eight, rounded down. -/
def quot8 (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 8#32 0#32)) (Scalar.extui (Scalar.cmpi .slt 8#32 0#32))))
      (IntOp.cmpi .ne (IntOp.remsi .vector w 8#32) 0#32))
    (IntOp.subi (IntOp.divsi .vector w 8#32) 1#32) (IntOp.divsi .vector w 8#32)

/-- The word the kernel computes for the remainder of the lane number `w` by the divisor `b`. -/
def remWord (w b : BitVec 32) : BitVec 32 :=
  Scalar.select
    (IntOp.andi (IntOp.xori (IntOp.cmpi .slt (IntOp.remsi .vector w b) 0#32) (Scalar.cmpi .slt b 0#32))
      (IntOp.cmpi .ne (IntOp.remsi .vector w b) 0#32))
    (IntOp.addi (IntOp.remsi .vector w b) b) (IntOp.remsi .vector w b)

/-- On the 512 lanes the computed quotient is the quotient. -/
theorem quot8_lane : ∀ l : Fin 512, quot8 (BitVec.ofNat 32 l) = BitVec.ofNat 32 (l / 8) := by decide +kernel

/-- On the 512 lanes the computed remainder by eight is the remainder. -/
theorem remWord_lane : ∀ l : Fin 512,
    remWord (BitVec.ofNat 32 l) (Scalar.select (Scalar.cmpi .eq 8#32 0#32) 1#32 8#32) = BitVec.ofNat 32 (l % 8) := by
  decide +kernel

/-- Small words are equal only if their numbers are. -/
theorem ofNat_eq_iff (a b : ℕ) (ha : a < 64) (hb : b < 64) : BitVec.ofNat 32 a = BitVec.ofNat 32 b ↔ a = b := by
  constructor
  · intro h
    have := congrArg BitVec.toNat h
    simp only [BitVec.toNat_ofNat] at this
    omega
  · rintro rfl; rfl

/-- An equality test turned into a float is one or zero. -/
theorem float_of_eq (a b : BitVec 32) :
    (FloatOps.sitofp FTy.f32 (BitVec.setWidth 32 (IntOp.cmpi .eq a b)) : Ideal .f32) = if a = b then (1 : EReal) else 0 := by
  show ((BitVec.toInt (BitVec.setWidth 32 (IntOp.cmpi .eq a b)) : ℝ) : EReal) = _
  by_cases h : a = b
  · rw [if_pos h, show IntOp.cmpi .eq a b = 1#1 by simp [IntOp.cmpi, h]]
    norm_num
  · rw [if_neg h, show IntOp.cmpi .eq a b = 0#1 by simp [IntOp.cmpi, beq_eq_false_iff_ne.mpr h]]
    norm_num

/-- A small word turned into a float is its number. -/
theorem float_of_small (u : ℕ) (hu : u < 8) : (FloatOps.sitofp FTy.f32 (BitVec.ofNat 32 u) : Ideal .f32) = ((u : ℝ) : EReal) := by
  show ((BitVec.toInt (BitVec.ofNat 32 u) : ℝ) : EReal) = _
  have : (BitVec.ofNat 32 u).toInt = u := by
    interval_cases u <;> rfl
  rw [this]; norm_cast

/-! ## Sums against the zero-one matrices -/

/-- A sum over the 512 lanes in which only the lanes of voxel `d` count is the sum over that voxel's eight lanes. -/
theorem sum_lanes (g : Fin 512 → EReal) (d : Fin 64) :
    ∑ l : Fin 512, g l * (if (l : ℕ) / 8 = d then (1 : EReal) else 0) = ∑ u : Fin 8, g ⟨8 * d + u, by omega⟩ := by
  rw [← Equiv.sum_comp (finProdFinEquiv : Fin 64 × Fin 8 ≃ Fin (64 * 8))
    (fun l : Fin 512 => g l * (if (l : ℕ) / 8 = d then (1 : EReal) else 0)), Fintype.sum_prod_type,
    Finset.sum_eq_single d]
  · refine Finset.sum_congr rfl fun u _ => ?_
    have hv : ((finProdFinEquiv (d, u) : Fin (64 * 8)) : ℕ) = 8 * d + u := by simp [finProdFinEquiv]; omega
    have hq : ((finProdFinEquiv (d, u) : Fin (64 * 8)) : ℕ) / 8 = d := by rw [hv]; omega
    rw [if_pos hq, mul_one]
    exact congrArg g (Fin.ext hv)
  · intro b _ hb
    refine Finset.sum_eq_zero fun u _ => ?_
    have hv : ((finProdFinEquiv (b, u) : Fin (64 * 8)) : ℕ) = 8 * b + u := by simp [finProdFinEquiv]; omega
    have hq : ¬ ((finProdFinEquiv (b, u) : Fin (64 * 8)) : ℕ) / 8 = d := fun h => hb (Fin.ext (by rw [hv] at h; omega))
    rw [if_neg hq, mul_zero]
  · intro h; exact absurd (Finset.mem_univ _) h

/-- A sum over the 64 voxels in which only voxel `q` counts is that voxel's term. -/
theorem sum_pick (g : Fin 64 → EReal) (q : Fin 64) :
    ∑ k : Fin 64, g k * (if (q : ℕ) = k then (1 : EReal) else 0) = g q := by
  rw [Finset.sum_eq_single q]
  · simp
  · intro b _ hb
    rw [if_neg (fun h => hb (Fin.ext h.symm)), mul_zero]
  · intro h; exact absurd (Finset.mem_univ _) h

/-! ## The payloads at an index -/

/-- The guide value's position on the sample axis, clamped to `[0, 7]`. -/
def place (x : EReal) : EReal := min 7 (max 0 (x * 7))

/-- The extended reals' hat function around sample `u`. -/
def hatE (g : EReal) (u : ℕ) : EReal := max 0 (1 - max (g - ((u : ℝ) : EReal)) (-(g - ((u : ℝ) : EReal))))

theorem seven : Ideal.ofBits .f32 0x40E00000#32 = 7 := by
  simp [Ideal.ofBits, Ideal.ieee, -EReal.coe_mul]; norm_num; rfl

/-- The positions spread over the lanes: lane `l` of row `r` holds the position of voxel `l / 8`. -/
theorem pay2_apply (x : Vec Ideal S4x64x64 .f32) (r : Fin 256) (l : Fin 512) :
    k0_pay2 (F := Ideal) x (ix2 r l)
      = place (x (ix3 (⟨r / 64, by omega⟩ : Fin 4) (⟨r % 64, by omega⟩ : Fin 64) (⟨l / 8, by omega⟩ : Fin 64))) := by
  pointwise [k0_pay2]
  rw [← sum_pick (fun k => place (x (ix3 (⟨r / 64, by omega⟩ : Fin 4) (⟨r % 64, by omega⟩ : Fin 64) k))) ⟨l / 8, by omega⟩]
  refine Finset.sum_congr rfl fun k _ => ?_
  rw [float_of_eq]
  simp only [seven]
  refine congrArg (place _ * ·) (if_congr ?_ rfl rfl)
  rw [← ofNat_eq_iff _ _ (by show (l : ℕ) / 8 < 64; omega) k.isLt, ← quot8_lane l]
  rfl

/-- The weighted samples: row `r` and lane `l` hold the sample of channel `r / 256` times the hat weight of its lane. -/
theorem pay3_apply (g : FVec Ideal S256x512 .f32) (x : Vec Ideal S16x4x64x512 .f32) (r : Fin 4096) (l : Fin 512) :
    k0_pay3 (F := Ideal) g (iota .tc S256x512 32 [1] iota_S256x512_d1_w32)
        (Scalar.select (Scalar.cmpi .eq 8#32 0#32) 1#32 8#32) x (ix2 r l)
      = x (ix4 (⟨r / 256, by omega⟩ : Fin 16) (⟨r % 256 / 64, by omega⟩ : Fin 4) (⟨r % 256 % 64, by omega⟩ : Fin 64) l)
          * hatE (g (ix2 (⟨r % 256, by omega⟩ : Fin 256) l)) (l % 8) := by
  pointwise [k0_pay3]
  unfold hatE
  rw [← float_of_small ((l : ℕ) % 8) (by omega), ← remWord_lane l]
  rfl

/-- The lanes added up: the result of voxel `d` is the sum of the eight lanes of that voxel. -/
theorem pay1_apply (v : FVec Ideal S4096x512 .f32) (c : Fin 16) (p : Fin 4) (w d : Fin 64) :
    k0_pay1 (F := Ideal) v (iota .tc S512x64 32 [0] iota_S512x64_d0_w32) (iota .tc S512x64 32 [1] iota_S512x64_d1_w32)
        8#32 k0_pay4 k0_pay5 (ix4 c p w d)
      = ∑ u : Fin 8, v (ix2 (⟨c * 256 + p * 64 + w, by omega⟩ : Fin 4096) (⟨8 * d + u, by omega⟩ : Fin 512)) := by
  pointwise [k0_pay1, k0_pay4, k0_pay5]
  rw [← sum_lanes (fun l => v (ix2 (⟨c * 256 + p * 64 + w, by omega⟩ : Fin 4096) l)) d]
  refine Finset.sum_congr rfl fun l _ => ?_
  rw [float_of_eq]
  refine congrArg (v _ * ·) (if_congr ?_ rfl rfl)
  rw [← ofNat_eq_iff _ _ (by show (l : ℕ) / 8 < 64; omega) d.isLt, ← quot8_lane l]
  rfl

/-- **The block's payload at an index**: the eight samples of the voxel, each times its hat weight. -/
theorem block_apply (x0 : Vec Ideal S4x64x64 .f32) (x1 : Vec Ideal S16x4x64x512 .f32) (c : Fin 16) (p : Fin 4) (w d : Fin 64) :
    k0_pay1 (F := Ideal)
        (k0_pay3 (k0_pay2 x0) (iota .tc S256x512 32 [1] iota_S256x512_d1_w32)
          (Scalar.select (Scalar.cmpi .eq 8#32 0#32) 1#32 8#32) x1)
        (iota .tc S512x64 32 [0] iota_S512x64_d0_w32) (iota .tc S512x64 32 [1] iota_S512x64_d1_w32) 8#32 k0_pay4 k0_pay5
        (ix4 c p w d)
      = ∑ u : Fin 8, x1 (ix4 c p w (⟨8 * d + u, by omega⟩ : Fin 512)) * hatE (place (x0 (ix3 p w d))) u := by
  rw [pay1_apply]
  refine Finset.sum_congr rfl fun u _ => ?_
  rw [pay3_apply, pay2_apply]
  have hc : ((c : ℕ) * 256 + p * 64 + w) / 256 = c := by omega
  have hp : ((c : ℕ) * 256 + p * 64 + w) % 256 / 64 = p := by omega
  have hw : ((c : ℕ) * 256 + p * 64 + w) % 256 % 64 = w := by omega
  have hd : (8 * (d : ℕ) + u) / 8 = d := by omega
  have hu : (8 * (d : ℕ) + u) % 8 = u := by omega
  simp only [hc, hp, hw, hd, hu]

end Cert.KernelIdeal.Block

end
-- ==== Proof.KernelValue.lean ====
/-
  The kernel's run, read as a value.

  Each grid point writes the block of four rows that its inputs' blocks of four rows determine, and the sixteen blocks
  fill the result array. So after the run the result holds, at every voxel, the sum of the voxel's eight samples times
  their hat weights, read off the two arguments as launched.
-/
module

public import proofs.«01_k».proof.Proof.KernelBlock
public import Idealize.ShloMosaic.Lib.Pipeline.Value
public import Idealize.ShloMosaic.Lib.StableHlo.Run

@[expose] public section

set_option maxRecDepth 16384

noncomputable section

namespace Cert.KernelIdeal.KernelValue

open Cert.KernelIdeal Cert.KernelIdeal.Gen Cert.KernelIdeal.Block
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The grid has sixteen points. -/
theorem point_lt (t : Fin cfg0.N) : t.val < 16 := lt_of_lt_of_eq t.isLt N_0

/-- The array row that is row `p` of point `t`'s block. -/
def row (t : Fin cfg0.N) (p : Fin 4) : Fin 64 := ⟨4 * t.val + p, by have := point_lt t; omega⟩

/-- Lane `u` of voxel `d`. -/
def lane (d : Fin 64) (u : Fin 8) : Fin 512 := ⟨8 * d + u, by omega⟩

/-- The weighted sum of each voxel's eight lanes, for sample rows `s` and guide values `g`. -/
def summed (s : FVec Ideal S16x64x64x512 .f32) (g : FVec Ideal S64x64x64 .f32) : FVec Ideal S16x64x64x64 .f32 := fun i =>
  ∑ u : Fin 8, s (ix4 (i 0 : Fin 16) (i 1 : Fin 64) (i 2 : Fin 64) (lane (i 3 : Fin 64) u))
    * hatE (place (g (ix3 (i 1 : Fin 64) (i 2 : Fin 64) (i 3 : Fin 64)))) u

/-- What the result array is shown to hold: the weighted sums of the arrays the region finds. -/
abbrev result (c : Dev nD) : Buf (Elt Ideal) ((c : Thread nD τ).loc main_v2) := summed (V m c main_v0) (V m c main_v1)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Where the blocks of point `t` start, and how far the result's block reaches. -/
theorem idx_facts : ∀ t : Fin cfg0.N,
    win0_0.index t 0 = t.val ∧ win0_0.index t 1 = 0 ∧ win0_0.index t 2 = 0
      ∧ win0_1.index t 0 = 0 ∧ win0_1.index t 1 = t.val ∧ win0_1.index t 2 = 0 ∧ win0_1.index t 3 = 0
      ∧ win0_2.index t 0 = 0 ∧ win0_2.index t 1 = t.val ∧ win0_2.index t 2 = 0 ∧ win0_2.index t 3 = 0 :=
  (by decide +kernel : ∀ t : Fin grid0.N, _)

/-- The guide block of point `t` at an index. -/
theorem guide_block (c : Dev nD) (t : Fin cfg0.N) (p : Fin 4) (w d : Fin 64) :
    (iblk m c 0 t : Vec Ideal S4x64x64 .f32) (ix3 p w d)
      = V m c main_v1 (ix3 (row t p) w d) := by
  obtain ⟨h0, h1, h2, -⟩ := idx_facts t
  unfold iblk
  rw [View.read_apply]
  show V m c main_v1 _ = _
  congr 1
  funext a
  apply Fin.ext
  match a with
  | ⟨0, _⟩ => show win0_0.index t 0 * 4 + 1 * p.val = 4 * t.val + p.val; rw [h0]; omega
  | ⟨1, _⟩ => show win0_0.index t 1 * 64 + 1 * w.val = w.val; rw [h1]; omega
  | ⟨2, _⟩ => show win0_0.index t 2 * 64 + 1 * d.val = d.val; rw [h2]; omega

/-- The sample block of point `t` at an index. -/
theorem sample_block (c : Dev nD) (t : Fin cfg0.N) (k : Fin 16) (p : Fin 4) (w : Fin 64) (l : Fin 512) :
    (iblk m c 1 t : Vec Ideal S16x4x64x512 .f32) (ix4 k p w l)
      = V m c main_v0 (ix4 k (row t p) w l) := by
  obtain ⟨-, -, -, h0, h1, h2, h3, -⟩ := idx_facts t
  unfold iblk
  rw [View.read_apply]
  show V m c main_v0 _ = _
  congr 1
  funext a
  apply Fin.ext
  match a with
  | ⟨0, _⟩ => show win0_1.index t 0 * 16 + 1 * k.val = k.val; rw [h0]; omega
  | ⟨1, _⟩ => show win0_1.index t 1 * 4 + 1 * p.val = 4 * t.val + p.val; rw [h1]; omega
  | ⟨2, _⟩ => show win0_1.index t 2 * 64 + 1 * w.val = w.val; rw [h2]; omega
  | ⟨3, _⟩ => show win0_1.index t 3 * 512 + 1 * l.val = l.val; rw [h3]; omega

/-- A result array read through point `t`'s block. -/
theorem result_block (c : Dev nD) (G : Buf (Elt Ideal) ((c : Thread nD τ).loc main_v2)) (t : Fin cfg0.N) (k : Fin 16) (p : Fin 4) (w d : Fin 64) :
    ((cfg0.win 2).blk t).view.read (Elt Ideal) G (ix4 k p w d)
      = G (ix4 k (row t p) w d) := by
  obtain ⟨-, -, -, -, -, -, -, h0, h1, h2, h3⟩ := idx_facts t
  rw [View.read_apply]
  show G _ = _
  congr 1
  funext a
  apply Fin.ext
  match a with
  | ⟨0, _⟩ => show win0_2.index t 0 * 16 + 1 * k.val = k.val; rw [h0]; omega
  | ⟨1, _⟩ => show win0_2.index t 1 * 4 + 1 * p.val = 4 * t.val + p.val; rw [h1]; omega
  | ⟨2, _⟩ => show win0_2.index t 2 * 64 + 1 * w.val = w.val; rw [h2]; omega
  | ⟨3, _⟩ => show win0_2.index t 3 * 64 + 1 * d.val = d.val; rw [h3]; omega

/-- Every point writes back its block of the weighted sums. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  unfold out0_2
  rw [View.canon_unit_zero hz4, View.ld_unit_zero hz3, View.ld_unit_zero hz4]
  refine funext fun (j : S16x4x64x64.Idx) => ?_
  obtain ⟨k, p, w, d, rfl⟩ : ∃ (k : Fin 16) (p : Fin 4) (w d : Fin 64), j = ix4 k p w d :=
    ⟨j 0, j 1, j 2, j 3, funext fun a => by fin_cases a <;> rfl⟩
  refine (block_apply (iblk m c 0 t) (iblk m c 1 t) k p w d).trans ?_
  refine Eq.trans ?_ (result_block c (result m c) t k p w d).symm
  simp only [guide_block, sample_block]
  rfl

/-- An index of the result array is in point `t`'s block iff its row is one of that block's four. -/
theorem mem_blk (t : Fin cfg0.N) (i : S16x64x64x64.Idx) :
    i ∈ ((cfg0.win 2).blk t).view.set ↔ 4 * t.val ≤ (i 1 : Nat) ∧ (i 1 : Nat) < 4 * t.val + 4 := by
  show i ∈ ((View.whole main_v2).slice (win0_2.rect t)).set ↔ _
  rw [View.set_slice_whole, Rect.mem_set_unit]
  obtain ⟨-, -, -, -, -, -, -, e0, e1, e2, e3⟩ := idx_facts t
  have h0 : (i 0 : Nat) < 16 := (i 0).isLt
  have h2 : (i 2 : Nat) < 64 := (i 2).isLt
  have h3 : (i 3 : Nat) < 64 := (i 3).isLt
  refine ⟨fun h => ?_, fun h a => ?_⟩
  · have : win0_2.index t 1 * 4 ≤ (i 1 : Nat) ∧ (i 1 : Nat) < win0_2.index t 1 * 4 + 4 := h 1
    rw [e1] at this; omega
  · match a with
    | ⟨0, _⟩ => show win0_2.index t 0 * 16 ≤ (i 0 : Nat) ∧ (i 0 : Nat) < win0_2.index t 0 * 16 + 16; rw [e0]; omega
    | ⟨1, _⟩ => show win0_2.index t 1 * 4 ≤ (i 1 : Nat) ∧ (i 1 : Nat) < win0_2.index t 1 * 4 + 4; rw [e1]; omega
    | ⟨2, _⟩ => show win0_2.index t 2 * 64 ≤ (i 2 : Nat) ∧ (i 2 : Nat) < win0_2.index t 2 * 64 + 64; rw [e2]; omega
    | ⟨3, _⟩ => show win0_2.index t 3 * 64 ≤ (i 3 : Nat) ∧ (i 3 : Nat) < win0_2.index t 3 * 64 + 64; rw [e3]; omega

/-- The sixteen blocks fill the result array. -/
theorem cover (i : S16x64x64x64.Idx) : ∃ t : Fin cfg0.N, (cfg0.win 2).flush t = true ∧ i ∈ ((cfg0.win 2).blk t).view.set := by
  have h1 : (i 1 : Nat) < 64 := (i 1).isLt
  have hN : cfg0.N = 16 := N_0
  refine ⟨⟨(i 1 : Nat) / 4, by omega⟩, flush0_2 _, ?_⟩
  rw [mem_blk]
  dsimp only
  omega

/-- After the region the result array holds the weighted sums. -/
theorem final (c : Dev nD) : (dats m 0 c).arrAt 2 cfg0.N = result m c :=
  (dats m 0 c).arrAt_eq_of_cover 2 (result m c) (fun t _ => flushed_eq m c t) cover

/-! ## The reshapes around the region -/

/-- The region finds the samples as the first argument, its voxel and sample axes merged. -/
theorem V_samples (c : Dev nD) : V m c main_v0
    = shapeCast S16x64x64x512 (m ((c : Thread nD τ).loc main_arg0) : FVec Ideal S1x16x64x64x64x8 .f32) shapeCasts_S1x16x64x64x64x8_S16x64x64x512 := by
  show StableHlo.after (List.flatten [hostOps0]) (fun b => m (c, b)) (Proc.devRef .tc main_v0) = _
  simp only [hostOps0, List.flatten_cons, List.flatten_nil, List.append_nil]
  after_results_simp
  rfl

/-- The region finds the guide as the second argument, its unit axes dropped. -/
theorem V_guide (c : Dev nD) : V m c main_v1
    = shapeCast S64x64x64 (m ((c : Thread nD τ).loc main_arg1) : FVec Ideal S1x1x64x64x64 .f32) shapeCasts_S1x1x64x64x64_S64x64x64 := by
  show StableHlo.after (List.flatten [hostOps0]) (fun b => m (c, b)) (Proc.devRef .tc main_v1) = _
  simp only [hostOps0, List.flatten_cons, List.flatten_nil, List.append_nil]
  after_results_simp
  rfl

/-- The program's result is the region's result array with a leading unit axis. -/
theorem W_result (c : Dev nD) : Pipeline.afterTail₀ cfgs (dats m) 0 (V0 m) [hostOps1] c main_v3
    = shapeCast S1x16x64x64x64 (result m c : FVec Ideal S16x64x64x64 .f32) shapeCasts_S16x64x64x64_S1x16x64x64x64 := by
  unfold Pipeline.afterTail₀
  have e : Pipeline.withArrays (cfgs 0).spec c (V0 m c) (fun w => (dats m 0 c).arrAt w (cfgs 0).N) (Proc.devRef .tc main_v2) = result m c :=
    (Pipeline.withArrays_arr spec0 launch0.win.arr_inj c _ _ 2).trans (final m c)
  simp only [hostOps1, List.flatten_cons, List.flatten_nil, List.append_nil]
  after_results_simp
  rw [e]
  rfl

/-- The kernel as a function of its two arguments: at every voxel the sum of its eight samples times their hat weights. -/
def value (bg : FVec Ideal S1x16x64x64x64x8 .f32) (gm : FVec Ideal S1x1x64x64x64 .f32) : FVec Ideal S1x16x64x64x64 .f32 :=
  fun i => ∑ u : Fin 8, bg (ix6 (0 : Fin 1) (i 1 : Fin 16) (i 2 : Fin 64) (i 3 : Fin 64) (i 4 : Fin 64) u)
    * hatE (place (gm (ix5 (0 : Fin 1) (0 : Fin 1) (i 2 : Fin 64) (i 3 : Fin 64) (i 4 : Fin 64)))) u

/-- The reshapes and the weighted sums together are that function. -/
theorem value_eq (bg : FVec Ideal S1x16x64x64x64x8 .f32) (gm : FVec Ideal S1x1x64x64x64 .f32) :
    shapeCast S1x16x64x64x64
        (summed (shapeCast S16x64x64x512 bg shapeCasts_S1x16x64x64x64x8_S16x64x64x512)
          (shapeCast S64x64x64 gm shapeCasts_S1x1x64x64x64_S64x64x64))
        shapeCasts_S16x64x64x64_S1x16x64x64x64
      = value bg gm := by
  funext j
  idx_vars j
  unfold summed value
  pointwise
  refine Finset.sum_congr rfl fun u _ => ?_
  congr 3
  · exact Fin.ext (by show (8 * (j4 : ℕ) + u) / 8 = j4; omega)
  · exact Fin.ext (by show (8 * (j4 : ℕ) + u) % 8 = u; omega)

/-- **The kernel's run**: the result holds `value` of the two arguments, and the arguments are unchanged. -/
theorem run : θ_run defs (onTc (τ := τ) (main (F := Ideal))) ⟨m, fun _ => 0, ρ⟩ fun r => ∀ c : Dev nD,
      r.2.mem ((c.tc : Thread nD τ).loc main_v3)
        = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans ((W_result m c).trans (by
        unfold result
        rw [V_samples, V_guide]
        exact value_eq _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelValue

end
-- ==== Proof.RefChain.lean ====
/-
  The reference as sixteen equal steps.

  The reference adds up the sixteen corners of the cell around each query point: for each corner the sample taken there
  times a product of four side weights. Here one such step is written once, as a function of which side the corner is
  on in each of the four dimensions, and the reference's result is the sixteen steps one after another.
-/
module

public import proofs.«01_k».proof.Proof.Gen.ReferenceIdeal.Read
public import Idealize.ShloMosaic.PureOps.Ideal

@[expose] public section

set_option maxRecDepth 16384

noncomputable section

namespace Cert.ReferenceIdeal.Chain

open Cert.ReferenceIdeal Cert.ReferenceIdeal.Gen Cert.ReferenceIdeal.Read
open Idealize.ShloMosaic Idealize.ShloMosaic.TcCoe Idealize.SL.Sem Idealize.ShloMosaic.StableHlo

/-- One float per query point. -/
abbrev Row := FVec Ideal S1x262144 .f32
/-- One word per query point. -/
abbrev IRow := IVec S1x262144 32
/-- One float per channel and query point. -/
abbrev Out := FVec Ideal S1x16x262144 .f32
/-- The volume with its four spatial axes merged. -/
abbrev Vol := FVec Ideal S1x16x2097152 .f32
/-- Which side of the cell a corner is on, one dimension after another. -/
abbrev Corner := Bool × Bool × Bool × Bool

/-- The row of ones a corner's weight starts from. -/
def ones : Row := broadcastInDim S1x262144 ![1] bcast_S262144_S1x262144_1 (broadcastInDim S262144 ![] bcast_S_S262144 (constant S_ .f32 0x3F800000#32))

/-- The row of ones a fraction is subtracted from. -/
def unit : Row := broadcastInDim S1x262144 ![] bcast_S_S1x262144 (constant S_ .f32 0x3F800000#32)

/-- A row of one word. -/
def word (w : BitVec 32) : IRow := broadcastInDim S1x262144 ![] bcast_S_S1x262144 (constantI S_ 32 w)

/-- The weight of one side: the fraction on the upper side, one minus the fraction on the lower. -/
def side (b : Bool) (t : Row) : Row := bif b then t else subf unit t

/-- A corner's weight: the product of its four side weights. -/
def weight (b : Corner) (t0 t1 t2 t3 : Row) : Row :=
  mulf (mulf (mulf (mulf ones (side b.1 t0)) (side b.2.1 t1)) (side b.2.2.1 t2)) (side b.2.2.2 t3)

/-- The position in the merged volume of the sample at four coordinates. -/
def flat (p q r s : IRow) : IRow :=
  addi (muli (addi (muli (addi (muli p (word 64#32)) q) (word 64#32)) r) (word 8#32)) s

/-- A position with negative ones counted from the end, as a column. -/
def column (ix : IRow) : IVec S1x262144x1 32 :=
  broadcastInDim S1x262144x1 ![0, 1] bcast_S1x262144_S1x262144x1_0_1 (select (cmpi .slt ix (word 0#32)) (addi ix (word 2097152#32)) ix)

/-- Which positions lie in the volume. -/
def inside (col : IVec S1x262144x1 32) : IVec S1x262144 1 :=
  Host.reduce IntOp.andi
    (andi (cmpi .sge col (broadcastInDim S1x262144x1 ![] bcast_S_S1x262144x1 (constantI S_ 32 0#32)))
      (cmpi .sle col (broadcastInDim S1x262144x1 ![0, 1, 2] bcast_S1x1x1_S1x262144x1_0_1_2 (broadcastInDim S1x1x1 ![2] bcast_S1_S1x1x1_2 (constantI S1 32 2097151#32)))))
    (constantI S_ 1 1#1) reducesTo_S1x262144x1_S1x262144_d2 h_S_

/-- The samples at the positions `ix`, and no number where a position lies outside. -/
def taken (vol : Vol) (ix : IRow) : Out :=
  select (broadcastInDim S1x16x262144 ![0, 2] bcast_S1x262144_S1x16x262144_0_2 (inside (column ix)))
    (Host.gather gather_S1x16x2097152_S1x262144x1_S1x16x262144_1_2_0_0_2_2_1161 vol (column ix))
    (broadcastInDim S1x16x262144 ![] bcast_S_S1x16x262144 (constant S_ .f32 0x7FC00000#32))

/-- One weight per query point, the same for every channel. -/
def spread (w : Row) : Out :=
  broadcastInDim S1x16x262144 ![0, 1, 2] bcast_S1x1x262144_S1x16x262144_0_1_2 (broadcastInDim S1x1x262144 ![0, 2] bcast_S1x262144_S1x1x262144_0_2 w)

/-- The corner's coordinate in one dimension: the upper one or the lower one. -/
def coord (b : Bool) (lo hi : IRow) : IRow := bif b then hi else lo

/-- One step: the corner's samples times its weight, added to what there is. -/
def step (x0 : FVec Ideal S1x16x64x64x64x8 .f32) (x1 : FVec Ideal S1x1x64x64x64 .f32) (out : Out) (b : Corner) : Out :=
  addf out (mulf
    (taken (val_main_v73 (F := Ideal) x0)
      (flat (coord b.1 (val_main_v50 (F := Ideal) x1) (val_main_v60 (F := Ideal) x1))
        (coord b.2.1 (val_main_v52 (F := Ideal) x1) (val_main_v64 (F := Ideal) x1))
        (coord b.2.2.1 (val_main_v54 (F := Ideal) x1) (val_main_v68 (F := Ideal) x1))
        (coord b.2.2.2 (val_main_v56 (F := Ideal) x1) (val_main_v72 (F := Ideal) x1))))
    (spread (weight b (val_main_v45 (F := Ideal) x1) (val_main_v46 (F := Ideal) x1) (val_main_v47 (F := Ideal) x1) (val_main_v48 (F := Ideal) x1))))

/-- The corners in the order the reference visits them, the last dimension slowest. -/
def corners : List Corner :=
  [(false, false, false, false), (true, false, false, false), (false, true, false, false), (true, true, false, false),
   (false, false, true, false), (true, false, true, false), (false, true, true, false), (true, true, true, false),
   (false, false, false, true), (true, false, false, true), (false, true, false, true), (true, true, false, true),
   (false, false, true, true), (true, false, true, true), (false, true, true, true), (true, true, true, true)]

/-- The zeros the reference starts from. -/
def zeros : Out := val_main_v102 (F := Ideal)

/-- The reference's result is the sixteen steps from zero. -/
theorem result_eq (x0 : FVec Ideal S1x16x64x64x64x8 .f32) (x1 : FVec Ideal S1x1x64x64x64 .f32) :
    val_main_v460 (F := Ideal) x0 x1
      = shapeCast S1x16x64x64x64 (corners.foldl (step x0 x1) zeros) shapeCasts_S1x16x262144_S1x16x64x64x64 := by
  unfold corners zeros step coord
  dsimp only [List.foldl_cons, List.foldl_nil, cond_true, cond_false]
  rfl

end Cert.ReferenceIdeal.Chain

end
-- ==== Proof.RefTake.lean ====
/-
  Reading the merged volume at a position.

  The reference takes samples by position, with care for negative positions and for positions outside the volume. At a
  position that lies inside, all that care comes to nothing: the sample taken is the one at the position.
-/
module

public import proofs.«01_k».proof.Proof.RefChain
public import Idealize.ShloMosaic.Lib.Pointwise

@[expose] public section

set_option maxRecDepth 16384

noncomputable section

namespace Cert.ReferenceIdeal.Take

open Cert.ReferenceIdeal Cert.ReferenceIdeal.Gen Cert.ReferenceIdeal.Read Cert.ReferenceIdeal.Chain
open Idealize.ShloMosaic Idealize.ShloMosaic.TcCoe Idealize.SL.Sem Idealize.ShloMosaic.StableHlo

/-- A word below two to the thirty-first, read signed, is its number. -/
theorem toInt_small (k : ℕ) (hk : k < 2147483648) : (BitVec.ofNat 32 k).toInt = (k : ℤ) := by
  rw [BitVec.toInt_eq_toNat_cond, BitVec.toNat_ofNat]
  have : k % 2 ^ 32 = k := Nat.mod_eq_of_lt (by omega)
  rw [this]
  split <;> omega

/-- The gather reads, of channel `c` at query point `n`, the sample at the start position, held inside the volume. -/
theorem gather_apply (vol : Vol) (idx : IVec S1x262144x1 32) (c : Fin 16) (n : Fin 262144) :
    Host.gather gather_S1x16x2097152_S1x262144x1_S1x16x262144_1_2_0_0_2_2_1161 vol idx (ix3 (0 : Fin 1) c n)
      = vol (ix3 (0 : Fin 1) c ⟨min (idx (ix3 (0 : Fin 1) n (0 : Fin 1))).toInt.toNat 2097151, by omega⟩) := by
  unfold Host.gather
  congr 1
  funext a
  refine Fin.ext ?_
  let g := gather_S1x16x2097152_S1x262144x1_S1x16x262144_1_2_0_0_2_2_1161
  let y : S1x16x262144.Idx := ix3 (0 : Fin 1) c n
  show g.start y idx a + g.batchCoord y a + g.offCoord y a = _
  have batch0 : (0 : Fin 3) ∈ g.operandBatchingDims := List.mem_singleton.mpr rfl
  have start2 : (2 : Fin 3) ∈ g.startIndexMap := List.mem_singleton.mpr rfl
  have batch1 : (1 : Fin 3) ∉ g.operandBatchingDims := fun h => absurd (List.mem_singleton.mp h) (by decide)
  have batch2 : (2 : Fin 3) ∉ g.operandBatchingDims := fun h => absurd (List.mem_singleton.mp h) (by decide)
  have start1 : (1 : Fin 3) ∉ g.startIndexMap := fun h => absurd (List.mem_singleton.mp h) (by decide)
  have collapsed1 : (1 : Fin 3) ∉ g.collapsedSliceDims := fun h => absurd (List.mem_singleton.mp h) (by decide)
  have collapsed2 : (2 : Fin 3) ∈ g.collapsedSliceDims := List.mem_singleton.mpr rfl
  have axes : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases axes with rfl | rfl | rfl
  · rw [GatherDims.start_batching _ _ _ _ batch0,
      GatherDims.offCoord_eq_zero _ _ _ (fun h => ((GatherDims.mem_sKept _ _).mp h).2 batch0)]
    simp only [Nat.zero_add, Nat.add_zero]
    unfold GatherDims.batchCoord
    rw [dif_pos batch0]
    rfl
  · rw [GatherDims.batchCoord_eq_zero _ _ _ batch1]
    unfold GatherDims.start
    rw [dif_neg start1]
    simp only [Nat.zero_add]
    unfold GatherDims.offCoord
    rw [dif_pos ((GatherDims.mem_sKept _ _).mpr ⟨collapsed1, batch1⟩)]
    rfl
  · rw [GatherDims.batchCoord_eq_zero _ _ _ batch2,
      GatherDims.offCoord_eq_zero _ _ _ (fun h => ((GatherDims.mem_sKept _ _).mp h).1 collapsed2)]
    simp only [Nat.add_zero]
    unfold GatherDims.start
    rw [dif_pos start2]
    have hsi : g.siIdx y ⟨List.idxOf (2 : Fin 3) g.startIndexMap, List.idxOf_lt_length_iff.2 start2⟩
        = ix3 (0 : Fin 1) n (0 : Fin 1) := by
      funext b; refine Fin.ext ?_
      match b with
      | ⟨0, _⟩ => rfl
      | ⟨1, _⟩ => rfl
      | ⟨2, _⟩ => rfl
    exact congrArg (fun j => min (idx j).toInt.toNat 2097151) hsi

/-- A position inside the volume stays as it is in the column. -/
theorem column_apply (ix : IRow) (n : Fin 262144) (k : ℕ) (hk : k < 2097152)
    (h : ix (ix2 (0 : Fin 1) n) = BitVec.ofNat 32 k) :
    column ix (ix3 (0 : Fin 1) n (0 : Fin 1)) = BitVec.ofNat 32 k := by
  have e : column ix (ix3 (0 : Fin 1) n (0 : Fin 1))
      = Scalar.select (IntOp.cmpi .slt (ix (ix2 (0 : Fin 1) n)) 0#32)
          (IntOp.addi (ix (ix2 (0 : Fin 1) n)) 2097152#32) (ix (ix2 (0 : Fin 1) n)) := by
    unfold column word; pointwise
  have hs : IntOp.cmpi .slt (BitVec.ofNat 32 k) 0#32 = 0#1 := by
    have : BitVec.slt (BitVec.ofNat 32 k) 0#32 = false := by
      rw [BitVec.slt, toInt_small k (by omega)]
      simp
    simp [IntOp.cmpi, this]
  rw [e, h, hs]
  rfl

/-- A column whose position lies inside the volume passes the check. -/
theorem inside_apply (col : IVec S1x262144x1 32) (n : Fin 262144) (k : ℕ) (hk : k < 2097152)
    (h : col (ix3 (0 : Fin 1) n (0 : Fin 1)) = BitVec.ofNat 32 k) : inside col (ix2 (0 : Fin 1) n) = 1#1 := by
  have e : inside col (ix2 (0 : Fin 1) n) = Finset.fold IntOp.andi 1#1
      (fun x : Fin 1 => IntOp.andi (IntOp.cmpi .sge (col (ix3 (0 : Fin 1) n x)) 0#32)
        (IntOp.cmpi .sle (col (ix3 (0 : Fin 1) n x)) 2097151#32)) Finset.univ := by
    unfold inside; pointwise
  have h1 : IntOp.cmpi .sge (BitVec.ofNat 32 k) 0#32 = 1#1 := by
    have : BitVec.sle 0#32 (BitVec.ofNat 32 k) = true := by
      rw [BitVec.sle, toInt_small k (by omega)]
      simp
    simp [IntOp.cmpi, this]
  have h2 : IntOp.cmpi .sle (BitVec.ofNat 32 k) 2097151#32 = 1#1 := by
    have : BitVec.sle (BitVec.ofNat 32 k) 2097151#32 = true := by
      rw [BitVec.sle, toInt_small k (by omega), show (2097151#32).toInt = 2097151 from by decide]
      exact decide_eq_true (by omega)
    simp [IntOp.cmpi, this]
  rw [e, show (Finset.univ : Finset (Fin 1)) = {0} from rfl, Finset.fold_singleton, h, h1, h2]
  rfl

/-- The sample taken at a position inside the volume is the volume's sample there. -/
theorem taken_apply (vol : Vol) (ix : IRow) (c : Fin 16) (n : Fin 262144) (k : ℕ) (hk : k < 2097152)
    (h : ix (ix2 (0 : Fin 1) n) = BitVec.ofNat 32 k) :
    taken vol ix (ix3 (0 : Fin 1) c n) = vol (ix3 (0 : Fin 1) c ⟨k, hk⟩) := by
  have e : taken vol ix (ix3 (0 : Fin 1) c n)
      = Scalar.select (inside (column ix) (ix2 (0 : Fin 1) n))
          (Host.gather gather_S1x16x2097152_S1x262144x1_S1x16x262144_1_2_0_0_2_2_1161 vol (column ix) (ix3 (0 : Fin 1) c n))
          (Ideal.ofBits .f32 2143289344#32) := by
    unfold taken; pointwise
  have hc := column_apply ix n k hk h
  rw [e, inside_apply _ n k hk hc, gather_apply]
  refine congrArg vol (congrArg (ix3 (0 : Fin 1) c) (Fin.ext ?_))
  show min (column ix (ix3 (0 : Fin 1) n (0 : Fin 1))).toInt.toNat 2097151 = k
  rw [hc, toInt_small k (by omega), Int.toNat_natCast]
  omega

/-- The word of a position, from the words of its four coordinates. -/
theorem flat_apply (p q r s : IRow) (n : Fin 262144) (a b d u : ℕ)
    (hp : p (ix2 (0 : Fin 1) n) = BitVec.ofNat 32 a) (hq : q (ix2 (0 : Fin 1) n) = BitVec.ofNat 32 b)
    (hr : r (ix2 (0 : Fin 1) n) = BitVec.ofNat 32 d) (hs : s (ix2 (0 : Fin 1) n) = BitVec.ofNat 32 u) :
    flat p q r s (ix2 (0 : Fin 1) n) = BitVec.ofNat 32 (((a * 64 + b) * 64 + d) * 8 + u) := by
  have e : flat p q r s (ix2 (0 : Fin 1) n)
      = ((p (ix2 (0 : Fin 1) n) * 64#32 + q (ix2 (0 : Fin 1) n)) * 64#32 + r (ix2 (0 : Fin 1) n)) * 8#32
          + s (ix2 (0 : Fin 1) n) := by
    unfold flat word; pointwise; rfl
  rw [e, hp, hq, hr, hs]
  simp only [← BitVec.ofNat_mul, ← BitVec.ofNat_add]

/-- The merged volume, read at a merged position. -/
theorem volume_apply (x0 : FVec Ideal S1x16x64x64x64x8 .f32) (c : Fin 16) (h w d : Fin 64) (u : Fin 8)
    (k : Fin 2097152) (hk : (k : ℕ) = ((h * 64 + w) * 64 + d) * 8 + u) :
    val_main_v73 (F := Ideal) x0 (ix3 (0 : Fin 1) c k) = x0 (ix6 (0 : Fin 1) c h w d u) := by
  have e : val_main_v73 (F := Ideal) x0 (ix3 (0 : Fin 1) c k)
      = x0 (ix6 (0 : Fin 1) c ⟨k / 32768, by omega⟩ ⟨k / 512 % 64, by omega⟩ ⟨k / 8 % 64, by omega⟩
          ⟨k % 8, by omega⟩) := by
    unfold val_main_v73; pointwise
  have hh : (⟨(k : ℕ) / 32768, by omega⟩ : Fin 64) = h := Fin.ext (by show (k : ℕ) / 32768 = h; omega)
  have hw : (⟨(k : ℕ) / 512 % 64, by omega⟩ : Fin 64) = w := Fin.ext (by show (k : ℕ) / 512 % 64 = w; omega)
  have hd : (⟨(k : ℕ) / 8 % 64, by omega⟩ : Fin 64) = d := Fin.ext (by show (k : ℕ) / 8 % 64 = d; omega)
  have hu : (⟨(k : ℕ) % 8, by omega⟩ : Fin 8) = u := Fin.ext (by show (k : ℕ) % 8 = u; omega)
  rw [e, hh, hw, hd, hu]

end Cert.ReferenceIdeal.Take

end
-- ==== Proof.Interp.lean ====
/-
  Linear interpolation of eight samples, as extended-real arithmetic and nothing else.

  A position `y` is clamped to `[0, 7]` and every sample `f u` is weighted by the hat function
  `max 0 (1 - |g - u|)` of the clamped position `g`. Summed over the eight samples this is the two-sample
  interpolation between the samples on either side of `y`, the two sample numbers clamped to `0 … 7`.
-/
module

public import Mathlib.Data.EReal.Inv
public import Mathlib.Algebra.Order.Floor.Ring
public import Mathlib.Algebra.BigOperators.Fin
public import Mathlib.Tactic.Linarith
public import Mathlib.Tactic.FinCases
public import Mathlib.Tactic.NormNum

@[expose] public section

noncomputable section

namespace Cert.Interp

open scoped BigOperators

/-- An integer moved into `0 … 7`: the number of the sample that stands for sample `z`. -/
def clamp7 (z : ℤ) : Fin 8 := ⟨(max 0 (min z 7)).toNat, by omega⟩

/-- The hat function around sample `u` at the position `g`. -/
def hat (g : ℝ) (u : ℕ) : ℝ := max 0 (1 - |g - u|)

theorem hat_nonneg (g : ℝ) (u : ℕ) : 0 ≤ hat g u := le_max_left _ _

/-- At a sample's own position only that sample counts. -/
theorem hat_natCast (n u : ℕ) : hat (n : ℝ) u = if u = n then 1 else 0 := by
  unfold hat
  split_ifs with h
  · subst h; simp
  · refine max_eq_left ?_
    have h1 : (1 : ℝ) ≤ |(n : ℝ) - u| := by
      have : (1 : ℤ) ≤ |(n : ℤ) - u| := Int.one_le_abs (by omega)
      exact_mod_cast this
    linarith

/-- Between samples `n` and `n + 1` these two share the weight, and no other has any. -/
theorem hat_between (n u : ℕ) (t : ℝ) (h0 : 0 ≤ t) (h1 : t < 1) :
    hat (n + t) u = if u = n then 1 - t else if u = n + 1 then t else 0 := by
  unfold hat
  split_ifs with h h'
  · subst h
    rw [show (u : ℝ) + t - u = t by ring, abs_of_nonneg h0, max_eq_right (by linarith)]
  · subst h'
    push_cast
    rw [show (n : ℝ) + t - (n + 1) = t - 1 by ring, abs_of_nonpos (by linarith), max_eq_right (by linarith)]
    ring
  · refine max_eq_left ?_
    rcases lt_or_gt_of_ne h with hlt | hgt
    · have : (u : ℝ) + 1 ≤ n := by exact_mod_cast hlt
      have := le_abs_self ((n : ℝ) + t - u)
      linarith
    · have : (n : ℝ) + 2 ≤ u := by
        have : n + 2 ≤ u := by omega
        exact_mod_cast this
      have := neg_abs_le ((n : ℝ) + t - u)
      linarith

/-- Weights that vanish off one sample leave that sample. -/
theorem sum_one (f : Fin 8 → EReal) (n : Fin 8) :
    ∑ u : Fin 8, f u * ((if (u : ℕ) = n then (1 : ℝ) else 0 : ℝ) : EReal) = f n := by
  rw [Finset.sum_eq_single n]
  · simp
  · intro b _ hb
    rw [if_neg (fun h => hb (Fin.ext h))]
    simp
  · intro h; exact absurd (Finset.mem_univ _) h

/-- A sample split by two nonnegative weights that add up to one is the sample. -/
theorem split_one (a : EReal) (t : ℝ) (h0 : 0 ≤ t) (h1 : t < 1) :
    a * ((1 - t : ℝ) : EReal) + a * ((t : ℝ) : EReal) = a := by
  rw [← EReal.left_distrib_of_nonneg (by exact_mod_cast (by linarith : (0 : ℝ) ≤ 1 - t)) (by exact_mod_cast h0),
    ← EReal.coe_add, show (1 - t + t : ℝ) = 1 by ring]
  simp

/-- **The hat sum is the two-sample interpolation**, for every real position and all extended-real samples. -/
theorem hat_sum (f : Fin 8 → EReal) (y : ℝ) :
    ∑ u : Fin 8, f u * ((hat (min 7 (max 0 y)) u : ℝ) : EReal)
      = f (clamp7 ⌊y⌋) * ((1 - (y - ⌊y⌋) : ℝ) : EReal) + f (clamp7 (⌊y⌋ + 1)) * ((y - ⌊y⌋ : ℝ) : EReal) := by
  have ht0 : 0 ≤ y - ⌊y⌋ := by have := Int.floor_le y; linarith
  have ht1 : y - ⌊y⌋ < 1 := by have := Int.lt_floor_add_one y; linarith
  rcases lt_or_ge y 0 with hneg | hpos
  · have hf : ⌊y⌋ < 0 := Int.floor_lt.mpr (by exact_mod_cast hneg)
    have e0 : clamp7 ⌊y⌋ = 0 := Fin.ext (by show (max 0 (min ⌊y⌋ 7)).toNat = 0; omega)
    have e1 : clamp7 (⌊y⌋ + 1) = 0 := Fin.ext (by show (max 0 (min (⌊y⌋ + 1) 7)).toNat = 0; omega)
    rw [e0, e1, split_one _ _ ht0 ht1, max_eq_left hneg.le, min_eq_right (by norm_num)]
    have := hat_natCast 0
    simp only [Nat.cast_zero] at this
    simp only [this]
    exact sum_one f 0
  · rcases lt_or_ge y 7 with hlt | hge
    · have hf0 : 0 ≤ ⌊y⌋ := Int.floor_nonneg.mpr hpos
      have hf7 : ⌊y⌋ < 7 := Int.floor_lt.mpr (by exact_mod_cast hlt)
      obtain ⟨n, hn⟩ := Int.eq_ofNat_of_zero_le hf0
      have hn7 : n < 7 := by omega
      rw [max_eq_right hpos, min_eq_right hlt.le]
      set t : ℝ := y - ⌊y⌋ with ht
      have hy : y = n + t := by rw [ht, hn]; simp
      have e0 : clamp7 ⌊y⌋ = ⟨n, by omega⟩ := Fin.ext (by show (max 0 (min ⌊y⌋ 7)).toNat = n; omega)
      have e1 : clamp7 (⌊y⌋ + 1) = ⟨n + 1, by omega⟩ :=
        Fin.ext (by show (max 0 (min (⌊y⌋ + 1) 7)).toNat = n + 1; omega)
      rw [e0, e1]
      have hw : ∀ u : ℕ, hat y u = if u = n then 1 - t else if u = n + 1 then t else 0 := fun u => by
        rw [hy]; exact hat_between n u t ht0 ht1
      simp only [hw]
      rw [Finset.sum_eq_add (⟨n, by omega⟩ : Fin 8) (⟨n + 1, by omega⟩ : Fin 8) (by simp [Fin.ext_iff])]
      · simp
      · intro c _ hc
        rw [if_neg (fun h => hc.1 (Fin.ext h)), if_neg (fun h => hc.2 (Fin.ext h))]
        simp
      · intro h; exact absurd (Finset.mem_univ _) h
      · intro h; exact absurd (Finset.mem_univ _) h
    · have hf : 7 ≤ ⌊y⌋ := Int.le_floor.mpr (by exact_mod_cast hge)
      have e0 : clamp7 ⌊y⌋ = 7 := Fin.ext (by show (max 0 (min ⌊y⌋ 7)).toNat = 7; omega)
      have e1 : clamp7 (⌊y⌋ + 1) = 7 := Fin.ext (by show (max 0 (min (⌊y⌋ + 1) 7)).toNat = 7; omega)
      rw [e0, e1, split_one _ _ ht0 ht1, max_eq_right hpos, min_eq_left hge]
      have := hat_natCast 7
      simp only [Nat.cast_ofNat] at this
      simp only [this]
      exact sum_one f 7

end Cert.Interp

end
-- ==== Proof.RefCoords.lean ====
/-
  The reference's query positions, one dimension at a time.

  In the first three dimensions the query of voxel `(h, w, d)` sits exactly on the grid point `h`, `w` or `d`: its
  fraction is zero. In the last dimension it sits at seven times the guide value, at any real place: the two words
  around it are its floor and its floor plus one, held to the eight samples there are.
-/
module

public import proofs.«01_k».proof.Proof.RefTake
public import proofs.«01_k».proof.Proof.KernelBlock
public import proofs.«01_k».proof.Proof.Interp

@[expose] public section

set_option maxRecDepth 16384

noncomputable section

namespace Cert.ReferenceIdeal.Coords

open Cert.ReferenceIdeal Cert.ReferenceIdeal.Gen Cert.ReferenceIdeal.Read Cert.ReferenceIdeal.Chain
open Cert.ReferenceIdeal.Take
open Idealize.ShloMosaic Idealize.ShloMosaic.TcCoe Idealize.SL.Sem Idealize.ShloMosaic.StableHlo

/-! ## Numbers and words -/

/-- The scale of the first three dimensions. -/
theorem sixtythree : Ideal.ofBits .f32 1115422720#32 = ((63 : ℝ) : EReal) := by
  simp [Ideal.ofBits, Ideal.ieee, -EReal.coe_mul]; norm_num

/-- The scale of the last dimension. -/
theorem seven_word : Ideal.ofBits .f32 1088421888#32 = ((7 : ℝ) : EReal) := by
  simp [Ideal.ofBits, Ideal.ieee, -EReal.coe_mul]; norm_num

/-- A grid coordinate divided by 63 and multiplied by 63 is itself. -/
theorem grid (k : Fin 64) :
    Ideal.div (FloatOps.sitofp (F := Ideal) .f32 (BitVec.ofNat 32 k)) (Ideal.ofBits .f32 1115422720#32)
      * Ideal.ofBits .f32 1115422720#32 = ((k : ℝ) : EReal) := by
  have hf : FloatOps.sitofp (F := Ideal) .f32 (BitVec.ofNat 32 k) = ((k : ℝ) : EReal) := by
    show (((BitVec.ofNat 32 k).toInt : ℝ) : EReal) = _
    rw [toInt_small k (by omega)]
    norm_cast
  rw [hf, sixtythree, Ideal.div_coe (by norm_num), ← EReal.coe_mul, ← EReal.coe_mul]
  congr 1
  ring

/-- A whole number that fits becomes its word. -/
theorem word_of_int (z : ℤ) (h0 : -2147483648 ≤ z) (h1 : z ≤ 2147483647) :
    FloatOps.fptosi (F := Ideal) (φ := .f32) 32 (((z : ℝ) : EReal)) = BitVec.ofInt 32 z := by
  show BitVec.ofInt 32 (max (-(2 ^ (32 - 1) : ℕ)) (min ((2 ^ (32 - 1) : ℕ) - 1)
    (if 0 ≤ (z : ℝ) then ⌊(z : ℝ)⌋ else ⌈(z : ℝ)⌉))) = _
  rw [Int.floor_intCast, Int.ceil_intCast, ite_self]
  congr 1
  norm_num
  omega

/-- The signed value of the word of a whole number that fits. -/
theorem toInt_of_int (z : ℤ) (h0 : -2147483648 ≤ z) (h1 : z ≤ 2147483647) : (BitVec.ofInt 32 z).toInt = z := by
  rw [BitVec.toInt_ofInt]
  exact Int.bmod_eq_of_le (by norm_num; omega) (by norm_num; omega)

/-- A word held between zero and `hi` is the word of the number held between zero and `hi`. -/
theorem clip (hi : ℕ) (hhi : hi < 2147483648) (z : ℤ) (h0 : -2147483648 ≤ z) (h1 : z ≤ 2147483647) :
    IntOp.minsi (BitVec.ofNat 32 hi) (IntOp.maxsi 0#32 (BitVec.ofInt 32 z))
      = BitVec.ofNat 32 (max 0 (min z hi)).toNat := by
  apply BitVec.eq_of_toInt_eq
  have hz := toInt_of_int z h0 h1
  have hh := toInt_small hi hhi
  rw [toInt_small _ (by omega)]
  unfold IntOp.minsi IntOp.maxsi
  simp only [BitVec.slt, hz, hh]
  split <;> split <;> simp_all [BitVec.slt] <;> omega

/-- The floor of a real. -/
theorem floor_real (r : ℝ) : Ideal.liftRound Int.floor (r : EReal) = (((⌊r⌋ : ℤ) : ℝ) : EReal) := rfl

/-! ## The position, dimension by dimension

The query of voxel `(h, w, d)` has number `(h · 64 + w) · 64 + d`. -/

variable (x1 : FVec Ideal S1x1x64x64x64 .f32) (n : Fin 262144) (h w d : Fin 64)

/-- The query's number, taken apart again. -/
theorem query_parts (hn : (n : ℕ) = (h * 64 + w) * 64 + d) : (⟨(n : ℕ) / 4096, by omega⟩ : Fin 64) = h
    ∧ (⟨(n : ℕ) / 64 % 64, by omega⟩ : Fin 64) = w ∧ (⟨(n : ℕ) % 64, by omega⟩ : Fin 64) = d := by
  refine ⟨Fin.ext ?_, Fin.ext ?_, Fin.ext ?_⟩ <;> dsimp only <;> omega

/-- The position in the first dimension. -/
theorem pos0 (hn : (n : ℕ) = (h * 64 + w) * 64 + d) :
    val_main_v34 (F := Ideal) x1 (ix2 (0 : Fin 1) n) = (((h : ℕ) : ℝ) : EReal) := by
  have e : val_main_v34 (F := Ideal) x1 (ix2 (0 : Fin 1) n)
      = val_main_v31 (F := Ideal) x1 (ix5 (0 : Fin 1) ⟨(n : ℕ) / 4096, by omega⟩
          ⟨(n : ℕ) / 64 % 64, by omega⟩ ⟨(n : ℕ) % 64, by omega⟩ (0 : Fin 4)) := by
    unfold val_main_v34 val_main_v33 val_main_v32; pointwise
  obtain ⟨e1, e2, e3⟩ := query_parts n h w d hn
  rw [e, e1, e2, e3, ← grid h]
  unfold val_main_v31
  pointwise [val_main_v27, val_main_v11, val_main_v9, val_main_v8, val_main_v6, val_main_v3, val_main_v0, val_main_v7,
    val_main_cst, val_main_v10, val_main_cst_0]

/-- The position in the second dimension. -/
theorem pos1 (hn : (n : ℕ) = (h * 64 + w) * 64 + d) :
    val_main_v36 (F := Ideal) x1 (ix2 (0 : Fin 1) n) = (((w : ℕ) : ℝ) : EReal) := by
  have e : val_main_v36 (F := Ideal) x1 (ix2 (0 : Fin 1) n)
      = val_main_v31 (F := Ideal) x1 (ix5 (0 : Fin 1) ⟨(n : ℕ) / 4096, by omega⟩
          ⟨(n : ℕ) / 64 % 64, by omega⟩ ⟨(n : ℕ) % 64, by omega⟩ (1 : Fin 4)) := by
    unfold val_main_v36 val_main_v35 val_main_v32; pointwise
  obtain ⟨e1, e2, e3⟩ := query_parts n h w d hn
  rw [e, e1, e2, e3, ← grid w]
  unfold val_main_v31
  pointwise [val_main_v28, val_main_v17, val_main_v15, val_main_v14, val_main_v12, val_main_v4, val_main_v1,
    val_main_v13, val_main_cst_1, val_main_v16, val_main_cst_2]

/-- The position in the third dimension. -/
theorem pos2 (hn : (n : ℕ) = (h * 64 + w) * 64 + d) :
    val_main_v38 (F := Ideal) x1 (ix2 (0 : Fin 1) n) = (((d : ℕ) : ℝ) : EReal) := by
  have e : val_main_v38 (F := Ideal) x1 (ix2 (0 : Fin 1) n)
      = val_main_v31 (F := Ideal) x1 (ix5 (0 : Fin 1) ⟨(n : ℕ) / 4096, by omega⟩
          ⟨(n : ℕ) / 64 % 64, by omega⟩ ⟨(n : ℕ) % 64, by omega⟩ (2 : Fin 4)) := by
    unfold val_main_v38 val_main_v37 val_main_v32; pointwise
  obtain ⟨e1, e2, e3⟩ := query_parts n h w d hn
  rw [e, e1, e2, e3, ← grid d]
  unfold val_main_v31
  pointwise [val_main_v29, val_main_v23, val_main_v21, val_main_v20, val_main_v18, val_main_v5, val_main_v2,
    val_main_v19, val_main_cst_3, val_main_v22, val_main_cst_4]

/-- The position in the last dimension: seven times the guide value. -/
theorem pos3 (hn : (n : ℕ) = (h * 64 + w) * 64 + d) : val_main_v40 (F := Ideal) x1 (ix2 (0 : Fin 1) n)
    = x1 (ix5 (0 : Fin 1) (0 : Fin 1) h w d) * ((7 : ℝ) : EReal) := by
  have e : val_main_v40 (F := Ideal) x1 (ix2 (0 : Fin 1) n)
      = val_main_v31 (F := Ideal) x1 (ix5 (0 : Fin 1) ⟨(n : ℕ) / 4096, by omega⟩
          ⟨(n : ℕ) / 64 % 64, by omega⟩ ⟨(n : ℕ) % 64, by omega⟩ (3 : Fin 4)) := by
    unfold val_main_v40 val_main_v39 val_main_v32; pointwise
  obtain ⟨e1, e2, e3⟩ := query_parts n h w d hn
  rw [e, e1, e2, e3, ← seven_word]
  unfold val_main_v31
  pointwise [val_main_v30, val_main_v26, val_main_v25, val_main_v24, val_main_cst_5]

/-! ## Fractions -/

/-- A position minus its floor. -/
def fraction (p : Row) : Row := subf p (Host.floor p)

/-- The fraction of a real position. -/
theorem fraction_real (p : Row) (r : ℝ) (hp : p (ix2 (0 : Fin 1) n) = (r : EReal)) :
    fraction p (ix2 (0 : Fin 1) n) = ((r - (⌊r⌋ : ℤ) : ℝ) : EReal) := by
  show p (ix2 (0 : Fin 1) n) - Ideal.liftRound Int.floor (p (ix2 (0 : Fin 1) n)) = _
  rw [hp, floor_real, ← EReal.coe_sub]

/-- A grid point has no fraction. -/
theorem fraction_grid (p : Row) (k : ℕ) (hp : p (ix2 (0 : Fin 1) n) = ((k : ℝ) : EReal)) :
    fraction p (ix2 (0 : Fin 1) n) = 0 := by
  rw [fraction_real n p k hp, Int.floor_natCast]
  simp

/-- The fraction in the first dimension is zero. -/
theorem frac0 (hn : (n : ℕ) = (h * 64 + w) * 64 + d) : val_main_v45 (F := Ideal) x1 (ix2 (0 : Fin 1) n) = 0 :=
  fraction_grid n (val_main_v34 (F := Ideal) x1) h (pos0 x1 n h w d hn)

/-- The fraction in the second dimension is zero. -/
theorem frac1 (hn : (n : ℕ) = (h * 64 + w) * 64 + d) : val_main_v46 (F := Ideal) x1 (ix2 (0 : Fin 1) n) = 0 :=
  fraction_grid n (val_main_v36 (F := Ideal) x1) w (pos1 x1 n h w d hn)

/-- The fraction in the third dimension is zero. -/
theorem frac2 (hn : (n : ℕ) = (h * 64 + w) * 64 + d) : val_main_v47 (F := Ideal) x1 (ix2 (0 : Fin 1) n) = 0 :=
  fraction_grid n (val_main_v38 (F := Ideal) x1) d (pos2 x1 n h w d hn)

/-- The fraction in the last dimension. -/
theorem frac3 (hn : (n : ℕ) = (h * 64 + w) * 64 + d) (y : ℝ)
    (hy : x1 (ix5 (0 : Fin 1) (0 : Fin 1) h w d) * ((7 : ℝ) : EReal) = (y : EReal)) :
    val_main_v48 (F := Ideal) x1 (ix2 (0 : Fin 1) n) = ((y - (⌊y⌋ : ℤ) : ℝ) : EReal) :=
  fraction_real n (val_main_v40 (F := Ideal) x1) y ((pos3 x1 n h w d hn).trans hy)

/-! ## The words of the corners -/

/-- A row of words held between zero and `hi`. -/
def held (hi : BitVec 32) (v : IRow) : IRow := minsi (word hi) (maxsi (word 0#32) v)

/-- The words of the floors of a row of positions. -/
def floorWord (p : Row) : IRow := fptosi 32 (Host.floor p)

/-- The word of the floor of a real position that fits. -/
theorem floorWord_apply (p : Row) (r : ℝ) (hp : p (ix2 (0 : Fin 1) n) = (r : EReal)) (h0 : -2147483648 ≤ ⌊r⌋)
    (h1 : ⌊r⌋ ≤ 2147483647) : floorWord p (ix2 (0 : Fin 1) n) = BitVec.ofInt 32 ⌊r⌋ := by
  show FloatOps.fptosi (F := Ideal) (φ := .f32) 32 (Ideal.liftRound Int.floor (p (ix2 (0 : Fin 1) n))) = _
  rw [hp, floor_real, word_of_int _ h0 h1]

/-- A held word is the word of the held number. -/
theorem held_apply (hi : ℕ) (hhi : hi < 2147483648) (v : IRow) (z : ℤ) (hv : v (ix2 (0 : Fin 1) n) = BitVec.ofInt 32 z)
    (h0 : -2147483648 ≤ z) (h1 : z ≤ 2147483647) :
    held (BitVec.ofNat 32 hi) v (ix2 (0 : Fin 1) n) = BitVec.ofNat 32 (max 0 (min z hi)).toNat := by
  have e : held (BitVec.ofNat 32 hi) v (ix2 (0 : Fin 1) n)
      = IntOp.minsi (BitVec.ofNat 32 hi) (IntOp.maxsi 0#32 (v (ix2 (0 : Fin 1) n))) := by
    unfold held word; pointwise
  rw [e, hv, clip hi hhi z h0 h1]

/-- A grid point's lower word, held to the grid, is the grid point's. -/
theorem held_grid (p : Row) (k : Fin 64) (hp : p (ix2 (0 : Fin 1) n) = (((k : ℕ) : ℝ) : EReal)) :
    held (BitVec.ofNat 32 63) (floorWord p) (ix2 (0 : Fin 1) n) = BitVec.ofNat 32 k := by
  have hf : ⌊((k : ℕ) : ℝ)⌋ = ((k : ℕ) : ℤ) := Int.floor_natCast _
  rw [held_apply n 63 (by norm_num) _ _ (floorWord_apply n p _ hp (by omega) (by omega)) (by omega) (by omega), hf]
  congr 1
  omega

/-- The lower word in the first dimension. -/
theorem low0 (hn : (n : ℕ) = (h * 64 + w) * 64 + d) :
    val_main_v50 (F := Ideal) x1 (ix2 (0 : Fin 1) n) = BitVec.ofNat 32 h :=
  held_grid n (val_main_v34 (F := Ideal) x1) h (pos0 x1 n h w d hn)

/-- The lower word in the second dimension. -/
theorem low1 (hn : (n : ℕ) = (h * 64 + w) * 64 + d) :
    val_main_v52 (F := Ideal) x1 (ix2 (0 : Fin 1) n) = BitVec.ofNat 32 w :=
  held_grid n (val_main_v36 (F := Ideal) x1) w (pos1 x1 n h w d hn)

/-- The lower word in the third dimension. -/
theorem low2 (hn : (n : ℕ) = (h * 64 + w) * 64 + d) :
    val_main_v54 (F := Ideal) x1 (ix2 (0 : Fin 1) n) = BitVec.ofNat 32 d :=
  held_grid n (val_main_v38 (F := Ideal) x1) d (pos2 x1 n h w d hn)

/-- The lower word in the last dimension: the floor, held to the eight samples. -/
theorem low3 (hn : (n : ℕ) = (h * 64 + w) * 64 + d) (y : ℝ)
    (hy : x1 (ix5 (0 : Fin 1) (0 : Fin 1) h w d) * ((7 : ℝ) : EReal) = (y : EReal))
    (h0 : -2147483648 ≤ ⌊y⌋) (h1 : ⌊y⌋ ≤ 2147483646) :
    val_main_v56 (F := Ideal) x1 (ix2 (0 : Fin 1) n) = BitVec.ofNat 32 (Interp.clamp7 ⌊y⌋) :=
  held_apply n 7 (by norm_num) _ _ (floorWord_apply n (val_main_v40 (F := Ideal) x1) y ((pos3 x1 n h w d hn).trans hy) h0 (by omega)) h0
    (by omega)

/-- The upper word in the last dimension: the floor plus one, held to the eight samples. -/
theorem high3 (hn : (n : ℕ) = (h * 64 + w) * 64 + d) (y : ℝ)
    (hy : x1 (ix5 (0 : Fin 1) (0 : Fin 1) h w d) * ((7 : ℝ) : EReal) = (y : EReal))
    (h0 : -2147483648 ≤ ⌊y⌋) (h1 : ⌊y⌋ ≤ 2147483646) :
    val_main_v72 (F := Ideal) x1 (ix2 (0 : Fin 1) n) = BitVec.ofNat 32 (Interp.clamp7 (⌊y⌋ + 1)) := by
  have e : addi (floorWord (val_main_v40 (F := Ideal) x1)) (word 1#32) (ix2 (0 : Fin 1) n) = BitVec.ofInt 32 (⌊y⌋ + 1) := by
    have e1 : addi (floorWord (val_main_v40 (F := Ideal) x1)) (word 1#32) (ix2 (0 : Fin 1) n)
        = floorWord (val_main_v40 (F := Ideal) x1) (ix2 (0 : Fin 1) n) + 1#32 := by
      unfold word; pointwise; rfl
    rw [e1, floorWord_apply n (val_main_v40 (F := Ideal) x1) y ((pos3 x1 n h w d hn).trans hy) h0 (by omega), BitVec.ofInt_add]
    rfl
  exact held_apply n 7 (by norm_num) _ _ e (by omega) (by omega)

end Cert.ReferenceIdeal.Coords

end
-- ==== Proof.RefValue.lean ====
/-
  The reference's result, read at an index.

  Of the sixteen corners all but two have weight zero, for a query sits on the grid in the first three dimensions. The
  two that are left are the samples below and above the position in the last dimension, and the hat weights of the
  kernel come to the same two samples with the same two weights.
-/
module

public import proofs.«01_k».proof.Proof.RefCoords
public import proofs.«01_k».proof.Proof.KernelValue
public import proofs.«01_k».proof.Proof.Gen.Pre_position_fits

@[expose] public section

set_option maxRecDepth 16384

noncomputable section

namespace Cert.ReferenceIdeal.RefValue

open Cert.ReferenceIdeal Cert.ReferenceIdeal.Gen Cert.ReferenceIdeal.Read Cert.ReferenceIdeal.Chain
open Cert.ReferenceIdeal.Take Cert.ReferenceIdeal.Coords
open Idealize.ShloMosaic Idealize.ShloMosaic.TcCoe Idealize.SL.Sem Idealize.ShloMosaic.StableHlo
open scoped BigOperators

/-! ## One step -/

/-- The weight of one side, from the fraction. -/
def sideOf (b : Bool) (t : EReal) : EReal := bif b then t else 1 - t

/-- A side's weights, read at a query. -/
theorem side_apply (b : Bool) (t : Row) (n : Fin 262144) :
    side b t (ix2 (0 : Fin 1) n) = sideOf b (t (ix2 (0 : Fin 1) n)) := by
  cases b
  · unfold side sideOf unit; dsimp only [cond_false]; pointwise
  · rfl

/-- A corner's weights, read at a query. -/
theorem weight_apply (b : Corner) (t0 t1 t2 t3 : Row) (n : Fin 262144) :
    weight b t0 t1 t2 t3 (ix2 (0 : Fin 1) n)
      = sideOf b.1 (t0 (ix2 (0 : Fin 1) n)) * sideOf b.2.1 (t1 (ix2 (0 : Fin 1) n))
          * sideOf b.2.2.1 (t2 (ix2 (0 : Fin 1) n)) * sideOf b.2.2.2 (t3 (ix2 (0 : Fin 1) n)) := by
  simp only [← side_apply]
  unfold weight ones; pointwise

variable (x0 : FVec Ideal S1x16x64x64x64x8 .f32) (x1 : FVec Ideal S1x1x64x64x64 .f32)
variable (c : Fin 16) (n : Fin 262144) (h w d : Fin 64)

/-- One step, read at a channel and a query. -/
theorem step_apply (out : Out) (b : Corner) :
    step x0 x1 out b (ix3 (0 : Fin 1) c n) = out (ix3 (0 : Fin 1) c n)
      + taken (val_main_v73 (F := Ideal) x0)
          (flat (coord b.1 (val_main_v50 (F := Ideal) x1) (val_main_v60 (F := Ideal) x1))
            (coord b.2.1 (val_main_v52 (F := Ideal) x1) (val_main_v64 (F := Ideal) x1))
            (coord b.2.2.1 (val_main_v54 (F := Ideal) x1) (val_main_v68 (F := Ideal) x1))
            (coord b.2.2.2 (val_main_v56 (F := Ideal) x1) (val_main_v72 (F := Ideal) x1))) (ix3 (0 : Fin 1) c n)
        * weight b (val_main_v45 (F := Ideal) x1) (val_main_v46 (F := Ideal) x1) (val_main_v47 (F := Ideal) x1)
            (val_main_v48 (F := Ideal) x1) (ix2 (0 : Fin 1) n) := by
  have hs : ∀ v : Row, spread v (ix3 (0 : Fin 1) c n) = v (ix2 (0 : Fin 1) n) := by
    intro v; unfold spread; pointwise
  rw [← hs (weight _ _ _ _ _)]
  rfl

/-- The corner is on the upper side in one of the first three dimensions. -/
def dead (b : Corner) : Bool := b.1 || b.2.1 || b.2.2.1

/-- A step at a corner on the upper side of the grid adds nothing. -/
theorem step_dead (hn : (n : ℕ) = (h * 64 + w) * 64 + d) (out : Out) (b : Corner) (hb : dead b = true) :
    step x0 x1 out b (ix3 (0 : Fin 1) c n) = out (ix3 (0 : Fin 1) c n) := by
  rw [step_apply, weight_apply, frac0 x1 n h w d hn, frac1 x1 n h w d hn, frac2 x1 n h w d hn]
  obtain ⟨b0, b1, b2, b3⟩ := b
  have hz : sideOf b0 0 * sideOf b1 0 * sideOf b2 0 = 0 := by
    cases b0 <;> cases b1 <;> cases b2 <;> simp_all [sideOf, dead]
  rw [hz, zero_mul, mul_zero, add_zero]

/-- Steps at such corners add nothing, however many. -/
theorem foldl_dead (hn : (n : ℕ) = (h * 64 + w) * 64 + d) (l : List Corner) (out : Out) (hl : ∀ b ∈ l, dead b = true) :
    l.foldl (step x0 x1) out (ix3 (0 : Fin 1) c n) = out (ix3 (0 : Fin 1) c n) := by
  induction l generalizing out with
  | nil => rfl
  | cons b l ih =>
    rw [List.foldl_cons, ih _ (fun e he => hl e (List.mem_cons_of_mem _ he)),
      step_dead x0 x1 c n h w d hn _ _ (hl b List.mem_cons_self)]

/-- The word of a corner's last coordinate picks the lower or the upper sample. -/
def sample (b : Bool) (z : ℤ) : Fin 8 := bif b then Interp.clamp7 (z + 1) else Interp.clamp7 z

/-- A step at a corner on the grid adds its sample times the weight of its side in the last dimension. -/
theorem step_live (hn : (n : ℕ) = (h * 64 + w) * 64 + d) (y : ℝ)
    (hy : x1 (ix5 (0 : Fin 1) (0 : Fin 1) h w d) * ((7 : ℝ) : EReal) = (y : EReal))
    (h0 : -2147483648 ≤ ⌊y⌋) (h1 : ⌊y⌋ ≤ 2147483646) (out : Out) (b : Bool) :
    step x0 x1 out (false, false, false, b) (ix3 (0 : Fin 1) c n) = out (ix3 (0 : Fin 1) c n)
      + x0 (ix6 (0 : Fin 1) c h w d (sample b ⌊y⌋)) * sideOf b (((y - (⌊y⌋ : ℤ) : ℝ)) : EReal) := by
  have hu : coord b (val_main_v56 (F := Ideal) x1) (val_main_v72 (F := Ideal) x1) (ix2 (0 : Fin 1) n)
      = BitVec.ofNat 32 (sample b ⌊y⌋) := by
    cases b
    · unfold coord sample; dsimp only [cond_false]; exact low3 x1 n h w d hn y hy h0 h1
    · unfold coord sample; dsimp only [cond_true]; exact high3 x1 n h w d hn y hy h0 h1
  generalize sample b ⌊y⌋ = u at hu ⊢
  obtain ⟨k, hk⟩ : ∃ k : Fin 2097152, (k : ℕ) = (((h : ℕ) * 64 + w) * 64 + d) * 8 + u := ⟨⟨_, by omega⟩, rfl⟩
  have hf := flat_apply _ _ _ _ n h w d u (low0 x1 n h w d hn) (low1 x1 n h w d hn) (low2 x1 n h w d hn) hu
  rw [← hk] at hf
  have ht := taken_apply (val_main_v73 (F := Ideal) x0) _ c n k k.isLt hf
  rw [Fin.eta, volume_apply x0 c h w d u k hk] at ht
  rw [step_apply, weight_apply, frac0 x1 n h w d hn, frac1 x1 n h w d hn, frac2 x1 n h w d hn, frac3 x1 n h w d hn y hy]
  dsimp only [coord, cond_false] at ht ⊢
  rw [ht]
  simp [sideOf]

/-! ## All the steps -/

/-- The corners on the upper side of the grid, for one side in the last dimension. -/
def deadCorners (b : Bool) : List Corner :=
  [(true, false, false, b), (false, true, false, b), (true, true, false, b), (false, false, true, b),
   (true, false, true, b), (false, true, true, b), (true, true, true, b)]

/-- The sixteen corners: two on the grid, each followed by seven that add nothing. -/
theorem corners_eq : corners = (false, false, false, false) :: (deadCorners false
    ++ (false, false, false, true) :: deadCorners true) := rfl

/-- All the steps together leave the two samples around the position, each with its weight. -/
theorem steps_apply (hn : (n : ℕ) = (h * 64 + w) * 64 + d) (y : ℝ)
    (hy : x1 (ix5 (0 : Fin 1) (0 : Fin 1) h w d) * ((7 : ℝ) : EReal) = (y : EReal))
    (h0 : -2147483648 ≤ ⌊y⌋) (h1 : ⌊y⌋ ≤ 2147483646) :
    corners.foldl (step x0 x1) zeros (ix3 (0 : Fin 1) c n)
      = x0 (ix6 (0 : Fin 1) c h w d (Interp.clamp7 ⌊y⌋)) * ((1 - (y - (⌊y⌋ : ℤ)) : ℝ) : EReal)
        + x0 (ix6 (0 : Fin 1) c h w d (Interp.clamp7 (⌊y⌋ + 1))) * ((y - (⌊y⌋ : ℤ) : ℝ) : EReal) := by
  have hd : ∀ b, ∀ e ∈ deadCorners b, dead e = true := by decide
  have hz : zeros (ix3 (0 : Fin 1) c n) = 0 := by
    unfold zeros; pointwise [val_main_v102, val_main_v74, val_main_cst_25]
  rw [corners_eq, List.foldl_cons, List.foldl_append, List.foldl_cons, foldl_dead x0 x1 c n h w d hn _ _ (hd true),
    step_live x0 x1 c n h w d hn y hy h0 h1, foldl_dead x0 x1 c n h w d hn _ _ (hd false),
    step_live x0 x1 c n h w d hn y hy h0 h1, hz, zero_add]
  simp only [sample, sideOf, cond_true, cond_false, EReal.coe_sub, EReal.coe_one]

/-! ## The kernel's weights -/

/-- The greater of two reals. -/
theorem coe_max (a b : ℝ) : ((max a b : ℝ) : EReal) = max (a : EReal) b := EReal.coe_strictMono.monotone.map_max

/-- The smaller of two reals. -/
theorem coe_min (a b : ℝ) : ((min a b : ℝ) : EReal) = min (a : EReal) b := EReal.coe_strictMono.monotone.map_min

/-- The place on the axis of samples, for a real guide value. -/
theorem place_real (g : ℝ) : Cert.KernelIdeal.Block.place (g : EReal) = ((min 7 (max 0 (g * 7)) : ℝ) : EReal) := by
  unfold Cert.KernelIdeal.Block.place
  rw [coe_min, coe_max, EReal.coe_mul]
  rfl

/-- The hat weight at a real place. -/
theorem hat_real (g : ℝ) (u : ℕ) : Cert.KernelIdeal.Block.hatE (g : EReal) u = ((Interp.hat g u : ℝ) : EReal) := by
  unfold Cert.KernelIdeal.Block.hatE Interp.hat
  rw [abs_eq_max_neg, coe_max, EReal.coe_sub, coe_max, EReal.coe_neg, EReal.coe_sub]
  rfl

/-! ## The two values are one -/

/-- The guide value the condition allows is a real number of magnitude at most two to the twenty-eighth. -/
theorem guide_real (hpre : Cert.Pre_position_fits.fn (F := Ideal) x0 x1 = fun _ => 1#1) :
    ∃ g : ℝ, x1 (ix5 (0 : Fin 1) (0 : Fin 1) h w d) = (g : EReal) ∧ |g| ≤ 268435456 := by
  have e := congrFun hpre (ix5 (0 : Fin 1) (0 : Fin 1) h w d)
  have e2 : Cert.Pre_position_fits.fn (F := Ideal) x0 x1 (ix5 (0 : Fin 1) (0 : Fin 1) h w d)
      = Ideal.cmp .ole (max (x1 (ix5 (0 : Fin 1) (0 : Fin 1) h w d)) (-(x1 (ix5 (0 : Fin 1) (0 : Fin 1) h w d))))
          (Ideal.ofBits .f32 1300234240#32) := by
    unfold Cert.Pre_position_fits.fn; pointwise; rfl
  have hb : Ideal.ofBits .f32 1300234240#32 = ((268435456 : ℝ) : EReal) := by
    simp [Ideal.ofBits, Ideal.ieee, -EReal.coe_mul]; norm_num
  rw [e2, hb] at e
  generalize x1 (ix5 (0 : Fin 1) (0 : Fin 1) h w d) = x at e ⊢
  have hle : max x (-x) ≤ ((268435456 : ℝ) : EReal) := by
    by_contra hne
    simp [Ideal.cmp, hne] at e
  induction x using EReal.rec with
  | bot => simp at hle
  | top => simp at hle
  | coe g =>
    refine ⟨g, rfl, ?_⟩
    rw [← EReal.coe_neg, ← coe_max, EReal.coe_le_coe_iff] at hle
    rwa [abs_eq_max_neg]

/-- Under the condition the reference's result is the kernel's value. -/
theorem result_value (hpre : Cert.Pre_position_fits.fn (F := Ideal) x0 x1 = fun _ => 1#1) :
    val_main_v460 (F := Ideal) x0 x1 = Cert.KernelIdeal.KernelValue.value x0 x1 := by
  funext i
  idx_vars i
  obtain rfl : i0 = 0 := Subsingleton.elim _ _
  obtain ⟨g, hg, hle⟩ := guide_real x0 x1 i2 i3 i4 hpre
  have hy : x1 (ix5 (0 : Fin 1) (0 : Fin 1) i2 i3 i4) * ((7 : ℝ) : EReal) = ((g * 7 : ℝ) : EReal) := by
    rw [hg, EReal.coe_mul]
  have h0 : -2147483648 ≤ ⌊g * 7⌋ := Int.le_floor.mpr (by push_cast; linarith [(abs_le.mp hle).1])
  have h1 : ⌊g * 7⌋ ≤ 2147483646 := by
    have : ⌊g * 7⌋ < 2147483647 := Int.floor_lt.mpr (by push_cast; linarith [(abs_le.mp hle).2])
    omega
  have hk : Cert.KernelIdeal.KernelValue.value x0 x1 (ix5 (0 : Fin 1) i1 i2 i3 i4)
      = ∑ u : Fin 8, x0 (ix6 (0 : Fin 1) i1 i2 i3 i4 u)
          * Cert.KernelIdeal.Block.hatE (Cert.KernelIdeal.Block.place (x1 (ix5 (0 : Fin 1) (0 : Fin 1) i2 i3 i4))) u := rfl
  rw [hk, hg, place_real]
  simp only [hat_real]
  rw [Interp.hat_sum (fun u => x0 (ix6 (0 : Fin 1) i1 i2 i3 i4 u)) (g * 7), result_eq]
  obtain ⟨n, hn⟩ : ∃ n : Fin 262144, (n : ℕ) = ((i2 : ℕ) * 64 + i3) * 64 + i4 := ⟨⟨_, by omega⟩, rfl⟩
  rw [← steps_apply x0 x1 i1 n i2 i3 i4 hn (g * 7) hy h0 h1]
  generalize corners.foldl (step x0 x1) zeros = out
  pointwise
  exact congrArg (fun k => out (ix3 (0 : Fin 1) i1 k)) (Fin.ext (by dsimp only; omega))

end Cert.ReferenceIdeal.RefValue

end
-- ==== Proof.lean ====
/-
  The proof of the claims: the kernel and the reference run and leave their arguments alone, and, where the guide values
  fit, the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_position_fits
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments unchanged, and ends with every semaphore at zero. -/
theorem reference_frame : Cert.quiescent_ReferenceIdeal := fun m ρ _ =>
  (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m ρ)

/-- On arguments that agree and fit, the kernel's result and the reference's are the same array: the kernel's value. -/
theorem results_agree : Cert.algebraic_KernelIdeal_ReferenceIdeal_pre_position_fits := by
  intro m ρ m' ρ' hpre hagree
  refine ⟨fun c => Cert.KernelIdeal.KernelValue.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v460_eq (StableHlo.launchContents m' c)).trans ?_
  rw [StableHlo.launchContents_devRef, StableHlo.launchContents_devRef, (hagree c).1, (hagree c).2]
  exact Cert.ReferenceIdeal.RefValue.result_value _ _ (hpre c)

/-- All the claims. -/
theorem claim : Cert.Claim :=
  ⟨Cert.Kernel.Gen.facts, Cert.KernelIdeal.Gen.facts, Cert.ReferenceIdeal.Gen.facts, Cert.Pre_position_fits.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, results_agree⟩

end Cert.Proof

end
